-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S196x1536 : Shape := ⟨2, ![196, 1536]⟩
abbrev S100000x1536 : Shape := ⟨2, ![100000, 1536]⟩
abbrev S_ : Shape := ⟨0, ![]⟩

class Facts : Prop where
  bcast_S_S196x1536 : S_.BroadcastsInDim S196x1536 (![] : Fin 0 → Fin S196x1536.rank)
  bcast_S_S100000x1536 : S_.BroadcastsInDim S100000x1536 (![] : Fin 0 → Fin S100000x1536.rank)

variable [Facts]

def fn {F : FTy → Type} [FloatOps F] (main_arg0 : FVec F S196x1536 .f32) (main_arg1 : FVec F S100000x1536 .f32) : IVec S196x1536 1 × IVec S100000x1536 1 :=
  let main_v0 : FVec F S196x1536 .f32 := Host.absf main_arg0
  let main_cst : FVec F S_ .f32 := constant S_ .f32 0x7F800000#32
  let main_v1 : FVec F S196x1536 .f32 := broadcastInDim S196x1536 ![] bcast_S_S196x1536 main_cst
  let main_v2 : IVec S196x1536 1 := cmpf .olt main_v0 main_v1
  let main_v3 : FVec F S100000x1536 .f32 := Host.absf main_arg1
  let main_cst_0 : FVec F S_ .f32 := constant S_ .f32 0x7F800000#32
  let main_v4 : FVec F S100000x1536 .f32 := broadcastInDim S100000x1536 ![] bcast_S_S100000x1536 main_cst_0
  let main_v5 : IVec S100000x1536 1 := cmpf .olt main_v3 main_v4
  (main_v2, main_v5)
-- ==== Kernel.lean ====
abbrev S196x1536 : Shape := ⟨2, ![196, 1536]⟩
abbrev S100000x1536 : Shape := ⟨2, ![100000, 1536]⟩
abbrev S196x128 : Shape := ⟨2, ![196, 128]⟩
abbrev S4000x1536 : Shape := ⟨2, ![4000, 1536]⟩
abbrev S9x196x128 : Shape := ⟨3, ![9, 196, 128]⟩
abbrev S4000 : Shape := ⟨1, ![4000]⟩
abbrev S196x4000 : Shape := ⟨2, ![196, 4000]⟩
abbrev S1x4000 : Shape := ⟨2, ![1, 4000]⟩
abbrev S1x196x128 : Shape := ⟨3, ![1, 196, 128]⟩
abbrev S196x32 : Shape := ⟨2, ![196, 32]⟩
abbrev S196x96 : Shape := ⟨2, ![196, 96]⟩
abbrev S196 : Shape := ⟨1, ![196]⟩
abbrev S196x1 : Shape := ⟨2, ![196, 1]⟩
abbrev S196x1152 : Shape := ⟨2, ![196, 1152]⟩

abbrev nBuf : Space → Nat
  | .hbm => 5
  | .vmem => 6
  | .smem => 0
  | _ => 0

abbrev bufTy : (tb : Table) → Fin (tcTables nBuf tb) → BufTy
  | .hbm, ⟨0, _⟩ => ⟨S196x1536, .f32⟩
  | .hbm, ⟨1, _⟩ => ⟨S100000x1536, .f32⟩
  | .hbm, ⟨2, _⟩ => ⟨S196x128, .f32⟩
  | .hbm, ⟨3, _⟩ => ⟨S196x1, .f32⟩
  | .hbm, ⟨4, _⟩ => ⟨S196, .f32⟩
  | .local _ .vmem, ⟨0, _⟩ => ⟨S196x1536, .f32⟩
  | .local _ .vmem, ⟨1, _⟩ => ⟨S4000x1536, .f32⟩
  | .local _ .vmem, ⟨2, _⟩ => ⟨S4000x1536, .f32⟩
  | .local _ .vmem, ⟨3, _⟩ => ⟨S196x128, .f32⟩
  | .local _ .vmem, ⟨4, _⟩ => ⟨S196x1536, .bf16⟩
  | .local _ .vmem, ⟨5, _⟩ => ⟨S9x196x128, .f32⟩
  | _, _ => ⟨S196x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v379 : BitVec 1 := Scalar.cmpi .eq arg0 c24_i32
  let v380 : BitVec 32 := Scalar.extui v379
  let c0_i32_52 : BitVec 32 := 0#32
  let v381 : BitVec 1 := Scalar.cmpi .ne v380 c0_i32_52
  v381

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S196x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S196x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S196x1536 : Shape := ⟨2, ![196, 1536]⟩
abbrev S100000x1536 : Shape := ⟨2, ![100000, 1536]⟩
abbrev S_ : Shape := ⟨0, ![]⟩
abbrev S196 : Shape := ⟨1, ![196]⟩
abbrev S196x1 : Shape := ⟨2, ![196, 1]⟩
abbrev S100000 : Shape := ⟨1, ![100000]⟩
abbrev S1x100000 : Shape := ⟨2, ![1, 100000]⟩
abbrev S196x100000 : Shape := ⟨2, ![196, 100000]⟩
abbrev S1536x100000 : Shape := ⟨2, ![1536, 100000]⟩
abbrev S196x9 : Shape := ⟨2, ![196, 9]⟩

abbrev nBuf : Space → Nat
  | .hbm => 32
  | .vmem => 0
  | .smem => 0
  | _ => 0

abbrev bufTy : (tb : Table) → Fin (tcTables nBuf tb) → BufTy
  | .hbm, ⟨0, _⟩ => ⟨S196x1536, .f32⟩
  | .hbm, ⟨1, _⟩ => ⟨S100000x1536, .f32⟩
  | .hbm, ⟨2, _⟩ => ⟨S196x1536, .f32⟩
  | .hbm, ⟨3, _⟩ => ⟨S_, .f32⟩
  | .hbm, ⟨4, _⟩ => ⟨S196, .f32⟩
  | .hbm, ⟨5, _⟩ => ⟨S196x1, .f32⟩
  | .hbm, ⟨6, _⟩ => ⟨S100000x1536, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S196x100000, .f32⟩
  | .hbm, ⟨11, _⟩ => ⟨S196x100000, .f32⟩
  | .hbm, ⟨12, _⟩ => ⟨S196x100000, .f32⟩
  | .hbm, ⟨13, _⟩ => ⟨S1536x100000, .f32⟩
  | .hbm, ⟨14, _⟩ => ⟨S196x100000, .f32⟩
  | .hbm, ⟨15, _⟩ => ⟨S_, .f32⟩
  | .hbm, ⟨16, _⟩ => ⟨S196x100000, .f32⟩
  | .hbm, ⟨17, _⟩ => ⟨S196x100000, .f32⟩
  | .hbm, ⟨18, _⟩ => ⟨S196x100000, .f32⟩
  | .hbm, ⟨19, _⟩ => ⟨S_, .f32⟩
  | .hbm, ⟨20, _⟩ => ⟨S196x100000, .f32⟩
  | .hbm, ⟨21, _⟩ => ⟨S196x100000, .f32⟩
  | .hbm, ⟨22, _⟩ => ⟨S196x100000, .f32⟩
  | .hbm, ⟨23, _⟩ => ⟨S196x100000, .f32⟩
  | .hbm, ⟨24, _⟩ => ⟨S196x9, .f32⟩
  | .hbm, ⟨25, _⟩ => ⟨S196x9, .i32⟩
  | .hbm, ⟨26, _⟩ => ⟨S196x9, .f32⟩
  | .hbm, ⟨27, _⟩ => ⟨S_, .f32⟩
  | .hbm, ⟨28, _⟩ => ⟨S196, .f32⟩
  | .hbm, ⟨29, _⟩ => ⟨S_, .f32⟩
  | .hbm, ⟨30, _⟩ => ⟨S196, .f32⟩
  | .hbm, ⟨31, _⟩ => ⟨S196, .f32⟩
  | _, _ => ⟨S196x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Network.lean ====
/-
  The comparator network of one group of eight chunks, on one lane: eight new values are sorted and merged into the nine
  smallest seen so far. Counting values up to a threshold turns the network into one on truth values, which is checked on
  every input.
-/
module

public import Mathlib.Order.Lattice
public import Mathlib.Order.MinMax
public import Mathlib.Data.Fintype.Basic

@[expose] public section

namespace Cert.Network

variable {α β : Type}

/-- Nine values: what a lane keeps. -/
structure Nine (α : Type) where
  r0 : α
  r1 : α
  r2 : α
  r3 : α
  r4 : α
  r5 : α
  r6 : α
  r7 : α
  r8 : α

/-- Eight values: what a group of chunks brings to a lane. -/
structure Eight (α : Type) where
  e0 : α
  e1 : α
  e2 : α
  e3 : α
  e4 : α
  e5 : α
  e6 : α
  e7 : α

/-- The nine values as a list. -/
def Nine.list (r : Nine α) : List α := [r.r0, r.r1, r.r2, r.r3, r.r4, r.r5, r.r6, r.r7, r.r8]

/-- The eight values as a list. -/
def Eight.list (s : Eight α) : List α := [s.e0, s.e1, s.e2, s.e3, s.e4, s.e5, s.e6, s.e7]

/-- The kept value at a position. -/
def Nine.get (r : Nine α) : Fin 9 → α
  | 0 => r.r0
  | 1 => r.r1
  | 2 => r.r2
  | 3 => r.r3
  | 4 => r.r4
  | 5 => r.r5
  | 6 => r.r6
  | 7 => r.r7
  | 8 => r.r8

/-- The nine values given position by position. -/
def Nine.of (f : Fin 9 → α) : Nine α := ⟨f 0, f 1, f 2, f 3, f 4, f 5, f 6, f 7, f 8⟩

/-- A function applied to every kept value. -/
def Nine.map (f : α → β) (r : Nine α) : Nine β :=
  ⟨f r.r0, f r.r1, f r.r2, f r.r3, f r.r4, f r.r5, f r.r6, f r.r7, f r.r8⟩

/-- A function applied to every new value. -/
def Eight.map (f : α → β) (s : Eight α) : Eight β :=
  ⟨f s.e0, f s.e1, f s.e2, f s.e3, f s.e4, f s.e5, f s.e6, f s.e7⟩

/-- The sorting network on eight values: nineteen comparators, each a lower (`mn`) and an upper (`mx`) output. -/
def sortEight (mn mx : α → α → α) (s : Eight α) : Eight α :=
  let a0 := mn s.e0 s.e1
  let a1 := mx s.e0 s.e1
  let a2 := mn s.e2 s.e3
  let a3 := mx s.e2 s.e3
  let a4 := mn s.e4 s.e5
  let a5 := mx s.e4 s.e5
  let a6 := mn s.e6 s.e7
  let a7 := mx s.e6 s.e7
  let a8 := mn a0 a2
  let a9 := mx a0 a2
  let a10 := mn a1 a3
  let a11 := mx a1 a3
  let a12 := mn a4 a6
  let a13 := mx a4 a6
  let a14 := mn a5 a7
  let a15 := mx a5 a7
  let a16 := mn a10 a9
  let a17 := mx a10 a9
  let a18 := mn a14 a13
  let a19 := mx a14 a13
  let a20 := mn a8 a12
  let a21 := mx a8 a12
  let a22 := mn a16 a18
  let a23 := mx a16 a18
  let a24 := mn a17 a19
  let a25 := mx a17 a19
  let a26 := mn a11 a15
  let a27 := mx a11 a15
  let a28 := mn a24 a21
  let a29 := mx a24 a21
  let a30 := mn a26 a23
  let a31 := mx a26 a23
  let a32 := mn a22 a28
  let a33 := mx a22 a28
  let a34 := mn a30 a29
  let a35 := mx a30 a29
  let a36 := mn a31 a25
  let a37 := mx a31 a25
  ⟨a20, a32, a33, a34, a35, a36, a37, a27⟩

/-- The merge of sorted eight into sorted nine, the nine lowest kept: the low half of the bitonic pairing, then its
    comparators. -/
def mergeNine (mn mx : α → α → α) (r : Nine α) (s : Eight α) : Nine α :=
  let l1 := mn r.r1 s.e7
  let l2 := mn r.r2 s.e6
  let l3 := mn r.r3 s.e5
  let l4 := mn r.r4 s.e4
  let l5 := mn r.r5 s.e3
  let l6 := mn r.r6 s.e2
  let l7 := mn r.r7 s.e1
  let l8 := mn r.r8 s.e0
  let b0 := mn r.r0 l8
  let b1 := mx r.r0 l8
  let b2 := mn l1 l5
  let b3 := mx l1 l5
  let b4 := mn l2 l6
  let b5 := mx l2 l6
  let b6 := mn l3 l7
  let b7 := mx l3 l7
  let b8 := mn l4 b1
  let b9 := mx l4 b1
  let b10 := mn b2 b6
  let b11 := mx b2 b6
  let b12 := mn b4 b8
  let b13 := mx b4 b8
  let b14 := mn b3 b7
  let b15 := mx b3 b7
  let b16 := mn b5 b9
  let b17 := mx b5 b9
  let b18 := mn b10 b12
  let b19 := mx b10 b12
  let b20 := mn b11 b13
  let b21 := mx b11 b13
  let b22 := mn b14 b16
  let b23 := mx b14 b16
  let b24 := mn b15 b17
  let b25 := mx b15 b17
  ⟨b0, b18, b19, b20, b21, b22, b23, b24, b25⟩

/-- One group's work on a lane: sort the eight new values and merge them into the nine kept. -/
def group (mn mx : α → α → α) (r : Nine α) (s : Eight α) : Nine α := mergeNine mn mx r (sortEight mn mx s)

/-- A function that carries the comparators' outputs carries the sorting network. -/
theorem sortEight_map (mn mx : α → α → α) (mn' mx' : β → β → β) (f : α → β) (h : ∀ a b, f (mn a b) = mn' (f a) (f b))
    (h' : ∀ a b, f (mx a b) = mx' (f a) (f b)) (s : Eight α) :
    (sortEight mn mx s).map f = sortEight mn' mx' (s.map f) := by
  simp only [sortEight, Eight.map, h, h']

/-- A function that carries the comparators' outputs carries the merge. -/
theorem mergeNine_map (mn mx : α → α → α) (mn' mx' : β → β → β) (f : α → β) (h : ∀ a b, f (mn a b) = mn' (f a) (f b))
    (h' : ∀ a b, f (mx a b) = mx' (f a) (f b)) (r : Nine α) (s : Eight α) :
    (mergeNine mn mx r s).map f = mergeNine mn' mx' (r.map f) (s.map f) := by
  simp only [mergeNine, Eight.map, Nine.map, h, h']

/-- A function that carries the comparators' outputs carries a group's work. -/
theorem group_map (mn mx : α → α → α) (mn' mx' : β → β → β) (f : α → β) (h : ∀ a b, f (mn a b) = mn' (f a) (f b))
    (h' : ∀ a b, f (mx a b) = mx' (f a) (f b)) (r : Nine α) (s : Eight α) :
    (group mn mx r s).map f = group mn' mx' (r.map f) (s.map f) := by
  rw [group, mergeNine_map mn mx mn' mx' f h h', sortEight_map mn mx mn' mx' f h h', group]

/-- The truth values of "position below `n`". -/
def below (n : ℕ) : Nine Bool := Nine.of fun j => decide (j.val < n)

/-- How many of eight truth values are true. -/
def trues (s : Eight Bool) : ℕ := s.list.count true

/-- On truth values the group's work adds the number of true inputs to the number of true positions: checked on every
    input. -/
theorem group_bool_list : ∀ (n : Fin 10) (a b c d e f g h : Bool),
    (group or and (below n.val) ⟨a, b, c, d, e, f, g, h⟩).list
      = (below (n.val + trues ⟨a, b, c, d, e, f, g, h⟩)).list := by
  decide +kernel

/-- Nine values are their list. -/
theorem Nine.list_injective : Function.Injective (Nine.list (α := α)) := by
  rintro ⟨⟩ ⟨⟩ h
  simpa [Nine.list] using h

/-- More than nine true positions are nine. -/
theorem below_min (n : ℕ) : below (min n 9) = below n := by
  have h : ∀ j : Fin 9, decide (j.val < min n 9) = decide (j.val < n) := fun j => by
    have := j.isLt
    exact decide_eq_decide.mpr (by omega)
  simp only [below, h]

/-- On truth values, whatever the number of true positions. -/
theorem group_bool (n : ℕ) (s : Eight Bool) : group or and (below n) s = below (n + trues s) := by
  have h := group_bool_list ⟨min n 9, by omega⟩ s.e0 s.e1 s.e2 s.e3 s.e4 s.e5 s.e6 s.e7
  have h := Nine.list_injective h
  rw [← below_min n]
  refine h.trans ?_
  rw [← below_min, ← below_min (n + _)]
  congr 1
  show min (min n 9 + trues s) 9 = min (n + trues s) 9
  omega

/-- A kept value read through a function. -/
theorem Nine.get_map (f : α → β) (r : Nine α) (j : Fin 9) : (r.map f).get j = f (r.get j) := by
  match j with
  | 0 | 1 | 2 | 3 | 4 | 5 | 6 | 7 | 8 => rfl

/-- The values given position by position, read at a position. -/
theorem Nine.get_of (f : Fin 9 → α) (j : Fin 9) : (Nine.of f).get j = f j := by
  match j with
  | 0 | 1 | 2 | 3 | 4 | 5 | 6 | 7 | 8 => rfl

/-- Nine values are the ones read at the positions. -/
theorem Nine.of_get (r : Nine α) : Nine.of r.get = r := rfl

section Order

variable [LinearOrder α] [LinearOrder β]

/-- How many of eight values are at most `x`. -/
def upTo (x : α) (s : Eight α) : ℕ := trues (s.map fun a => decide (a ≤ x))

/-- The kept values meet a count: position `j` is at most `x` exactly if more than `j` values are counted up to `x`. -/
def Meets (r : Nine α) (x : α) (n : ℕ) : Prop := ∀ j : Fin 9, r.get j ≤ x ↔ j.val < n

/-- Kept values that meet a count are, as truth values, those of "position below the count". -/
theorem meets_iff (r : Nine α) (x : α) (n : ℕ) : Meets r x n ↔ r.map (fun a => decide (a ≤ x)) = below n := by
  constructor
  · intro h
    rw [← Nine.of_get (r.map _), below]
    congr 1
    funext j
    rw [Nine.get_map]
    exact decide_eq_decide.mpr (h j)
  · intro h j
    have := congrArg (fun q => q.get j) h
    simp only [Nine.get_map, below, Nine.get_of] at this
    exact decide_eq_decide.mp this

/-- A group's work adds to the count the new values up to the threshold. -/
theorem Meets.group {r : Nine α} {x : α} {n : ℕ} (h : Meets r x n) (s : Eight α) :
    Meets (group min max r s) x (n + upTo x s) := by
  rw [meets_iff] at h ⊢
  rw [group_map min max or and (fun a => decide (a ≤ x)), h, group_bool, upTo]
  · intro a b; simp [min_le_iff]
  · intro a b; simp [max_le_iff]

end Order

end Cert.Network

end
-- ==== Proof.Step.lean ====
/-
  What one grid point does to the nine kept values: the kernel's chain of comparators is four groups of `Network.group`,
  one after the other, on whole [196, 128] vectors.
-/
module

public import proofs.«01_k».proof.Proof.Gen.KernelIdeal.Frame
public import proofs.«01_k».proof.Proof.Network
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI Idealize.SL.Sem
open Cert.KernelIdeal.Gen Cert.Network

variable {F : FTy → Type} [FloatOps F]

/-- The nine kept vectors, read out of the scratch that holds them. -/
def runsOf (X : Vec F S9x196x128 .f32) : Nine (FVec F S196x128 .f32) :=
  ⟨k0_pay35 (View.ld X (Rect.unit ![0, 0, 0] S1x196x128.size inb_S9x196x128_S1x196x128_0_0_0)),
   k0_pay36 (View.ld X (Rect.unit ![1, 0, 0] S1x196x128.size inb_S9x196x128_S1x196x128_1_0_0)),
   k0_pay37 (View.ld X (Rect.unit ![2, 0, 0] S1x196x128.size inb_S9x196x128_S1x196x128_2_0_0)),
   k0_pay38 (View.ld X (Rect.unit ![3, 0, 0] S1x196x128.size inb_S9x196x128_S1x196x128_3_0_0)),
   k0_pay39 (View.ld X (Rect.unit ![4, 0, 0] S1x196x128.size inb_S9x196x128_S1x196x128_4_0_0)),
   k0_pay40 (View.ld X (Rect.unit ![5, 0, 0] S1x196x128.size inb_S9x196x128_S1x196x128_5_0_0)),
   k0_pay41 (View.ld X (Rect.unit ![6, 0, 0] S1x196x128.size inb_S9x196x128_S1x196x128_6_0_0)),
   k0_pay42 (View.ld X (Rect.unit ![7, 0, 0] S1x196x128.size inb_S9x196x128_S1x196x128_7_0_0)),
   k0_pay43 (View.ld X (Rect.unit ![8, 0, 0] S1x196x128.size inb_S9x196x128_S1x196x128_8_0_0))⟩

/-- The first group of eight chunks of a block's distances. -/
def chunks0 (D : FVec F S196x4000 .f32) : Eight (FVec F S196x128 .f32) :=
  ⟨k0_pay45 D, k0_pay46 D, k0_pay47 D, k0_pay48 D, k0_pay49 D, k0_pay50 D, k0_pay51 D, k0_pay52 D⟩

/-- The second group of eight chunks. -/
def chunks1 (D : FVec F S196x4000 .f32) : Eight (FVec F S196x128 .f32) :=
  ⟨k0_pay53 D, k0_pay54 D, k0_pay55 D, k0_pay56 D, k0_pay57 D, k0_pay58 D, k0_pay59 D, k0_pay60 D⟩

/-- The third group of eight chunks. -/
def chunks2 (D : FVec F S196x4000 .f32) : Eight (FVec F S196x128 .f32) :=
  ⟨k0_pay61 D, k0_pay62 D, k0_pay63 D, k0_pay64 D, k0_pay65 D, k0_pay66 D, k0_pay67 D, k0_pay68 D⟩

/-- The last group: seven chunks and the padded rest of the block. -/
def chunks3 (D : FVec F S196x4000 .f32) : Eight (FVec F S196x128 .f32) :=
  ⟨k0_pay69 D, k0_pay70 D, k0_pay71 D, k0_pay72 D, k0_pay73 D, k0_pay74 D, k0_pay75 D, k0_pay44 D⟩

/-- One group's work on whole vectors. -/
def groupV (r : Nine (FVec F S196x128 .f32)) (s : Eight (FVec F S196x128 .f32)) : Nine (FVec F S196x128 .f32) :=
  group minimumf maximumf r s

/-- A grid point's work on the kept vectors: the four groups in order. -/
def stepV (D : FVec F S196x4000 .f32) (r : Nine (FVec F S196x128 .f32)) : Nine (FVec F S196x128 .f32) :=
  groupV (groupV (groupV (groupV r (chunks0 D)) (chunks1 D)) (chunks2 D)) (chunks3 D)

/-- The scratch written from nine vectors. -/
def scratchOf (r : Nine (FVec F S196x128 .f32)) : Vec F S9x196x128 .f32 :=
  fun y => r.get (y 0) (ix2 (n0 := 196) (n1 := 128) (y 1) (y 2))

/-- One vector stored as a [1, 196, 128] row of the scratch is the scratch's row. -/
theorem row_apply (j : Fin 9) (inb) (r : Nine (FVec F S196x128 .f32)) (w : FVec F S1x196x128 .f32)
    (h : w = shapeCast S1x196x128 (r.get j) shapeCasts_S196x128_S1x196x128) (x : S1x196x128.Idx) :
    w x = scratchOf r ((Rect.unit (s := S9x196x128) ![j.val, 0, 0] S1x196x128.size inb).emb x) := by
  subst h
  obtain ⟨a, b, l, rfl⟩ : ∃ a b l, x = ix3 (n0 := 1) (n1 := 196) (n2 := 128) a b l := ⟨x 0, x 1, x 2, (ix3_eta x).symm⟩
  have hs : scratchOf r ((Rect.unit (s := S9x196x128) ![j.val, 0, 0] S1x196x128.size inb).emb (ix3 a b l))
      = r.get j (ix2 b l) := by
    have h0 : (Rect.unit (s := S9x196x128) ![j.val, 0, 0] S1x196x128.size inb).emb (ix3 a b l) = ix3 (n0 := 9) (n1 := 196) (n2 := 128) j b l := by
      funext q
      match q with
      | 0 => exact Fin.ext (show j.val + 1 * a.val = j.val by have := a.isLt; omega)
      | 1 => exact Fin.ext (show 0 + 1 * b.val = b.val by omega)
      | 2 => exact Fin.ext (show 0 + 1 * l.val = l.val by omega)
    rw [h0]
    rfl
  rw [hs]
  pointwise

set_option maxHeartbeats 2000000 in
/-- What a middle point leaves in the scratch of kept values. -/
theorem scratch_B (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : ¬cond0_0 i) (hc1 : ¬cond0_1 i)
    (x0 : Vec F S196x1536 .f32) (x1 : Vec F S4000x1536 .f32) (xs0 : Vec F S196x1536 .bf16) (xs1 : Vec F S9x196x128 .f32) :
    sout0_B_1 c i arg1 harg1 arg2 harg2 arg3 harg3 arg4 harg4 arg5 harg5 hc0 hc1 x0 x1 xs0 xs1
      = scratchOf (stepV (k0_pay34 xs0 x1) (runsOf xs1)) := by
  frame_out
  funext y
  refine View.canon_apply_of_pieces (scratchOf (stepV (k0_pay34 xs0 x1) (runsOf xs1))) _
    (View.PiecesOf.mem ?_) y ?_
  swap
  · exact View.cover_of_tiledL (s := S9x196x128) _ S1x196x128.size (by sl_kernel_rfl) y
  refine ⟨?_, ?_, ?_, ?_, ?_, ?_, ?_, ?_, ?_, trivial⟩
  all_goals intro x
  · exact row_apply 8 inb_S9x196x128_S1x196x128_8_0_0 _ _ (by sl_kernel_rfl) x
  · exact row_apply 7 inb_S9x196x128_S1x196x128_7_0_0 _ _ (by sl_kernel_rfl) x
  · exact row_apply 6 inb_S9x196x128_S1x196x128_6_0_0 _ _ (by sl_kernel_rfl) x
  · exact row_apply 5 inb_S9x196x128_S1x196x128_5_0_0 _ _ (by sl_kernel_rfl) x
  · exact row_apply 4 inb_S9x196x128_S1x196x128_4_0_0 _ _ (by sl_kernel_rfl) x
  · exact row_apply 3 inb_S9x196x128_S1x196x128_3_0_0 _ _ (by sl_kernel_rfl) x
  · exact row_apply 2 inb_S9x196x128_S1x196x128_2_0_0 _ _ (by sl_kernel_rfl) x
  · exact row_apply 1 inb_S9x196x128_S1x196x128_1_0_0 _ _ (by sl_kernel_rfl) x
  · exact row_apply 0 inb_S9x196x128_S1x196x128_0_0_0 _ _ (by sl_kernel_rfl) x

/-- What the first point leaves in the scratch of scaled features. -/
theorem features_A (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : cond0_0 i) (hc1 : ¬cond0_1 i)
    (x0 : Vec F S196x1536 .f32) (x1 : Vec F S4000x1536 .f32) :
    sout0_A_0 c i arg1 harg1 arg2 harg2 arg3 harg3 arg4 harg4 arg5 harg5 hc0 hc1 x0 x1 = k0_pay33 x0 := by
  frame_out

set_option maxHeartbeats 2000000 in
/-- What the first point leaves in the scratch of kept values. -/
theorem scratch_A (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : cond0_0 i) (hc1 : ¬cond0_1 i)
    (x0 : Vec F S196x1536 .f32) (x1 : Vec F S4000x1536 .f32) :
    sout0_A_1 c i arg1 harg1 arg2 harg2 arg3 harg3 arg4 harg4 arg5 harg5 hc0 hc1 x0 x1
      = scratchOf (stepV (k0_pay34 (k0_pay33 x0) x1) (runsOf k0_pay32)) := by
  frame_out
  simp (disch := decide) only [View.readCov_fill]
  funext y
  refine View.canon_append_of_pieces (scratchOf (stepV (k0_pay34 (k0_pay33 x0) x1) (runsOf k0_pay32))) [_] [_, _, _, _, _, _, _, _, _]
    (View.PiecesOf.mem ?_) y ?_
  swap
  · exact View.cover_of_tiledL (s := S9x196x128) _ S1x196x128.size (by sl_kernel_rfl) y
  refine ⟨?_, ?_, ?_, ?_, ?_, ?_, ?_, ?_, ?_, trivial⟩
  all_goals intro x
  · exact row_apply 8 inb_S9x196x128_S1x196x128_8_0_0 _ _ (by sl_kernel_rfl) x
  · exact row_apply 7 inb_S9x196x128_S1x196x128_7_0_0 _ _ (by sl_kernel_rfl) x
  · exact row_apply 6 inb_S9x196x128_S1x196x128_6_0_0 _ _ (by sl_kernel_rfl) x
  · exact row_apply 5 inb_S9x196x128_S1x196x128_5_0_0 _ _ (by sl_kernel_rfl) x
  · exact row_apply 4 inb_S9x196x128_S1x196x128_4_0_0 _ _ (by sl_kernel_rfl) x
  · exact row_apply 3 inb_S9x196x128_S1x196x128_3_0_0 _ _ (by sl_kernel_rfl) x
  · exact row_apply 2 inb_S9x196x128_S1x196x128_2_0_0 _ _ (by sl_kernel_rfl) x
  · exact row_apply 1 inb_S9x196x128_S1x196x128_1_0_0 _ _ (by sl_kernel_rfl) x
  · exact row_apply 0 inb_S9x196x128_S1x196x128_0_0_0 _ _ (by sl_kernel_rfl) x

set_option maxHeartbeats 2000000 in
/-- What the last point leaves in the scratch of kept values. -/
theorem scratch_C (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : ¬cond0_0 i) (hc1 : cond0_1 i)
    (x0 : Vec F S196x1536 .f32) (x1 : Vec F S4000x1536 .f32) (xs0 : Vec F S196x1536 .bf16) (xs1 : Vec F S9x196x128 .f32) :
    sout0_C_1 c i arg1 harg1 arg2 harg2 arg3 harg3 arg4 harg4 arg5 harg5 hc0 hc1 x0 x1 xs0 xs1
      = scratchOf (stepV (k0_pay34 xs0 x1) (runsOf xs1)) := by
  frame_out
  funext y
  refine View.canon_apply_of_pieces (scratchOf (stepV (k0_pay34 xs0 x1) (runsOf xs1))) _
    (View.PiecesOf.mem ?_) y ?_
  swap
  · exact View.cover_of_tiledL (s := S9x196x128) _ S1x196x128.size (by sl_kernel_rfl) y
  refine ⟨?_, ?_, ?_, ?_, ?_, ?_, ?_, ?_, ?_, trivial⟩
  all_goals intro x
  · exact row_apply 8 inb_S9x196x128_S1x196x128_8_0_0 _ _ (by sl_kernel_rfl) x
  · exact row_apply 7 inb_S9x196x128_S1x196x128_7_0_0 _ _ (by sl_kernel_rfl) x
  · exact row_apply 6 inb_S9x196x128_S1x196x128_6_0_0 _ _ (by sl_kernel_rfl) x
  · exact row_apply 5 inb_S9x196x128_S1x196x128_5_0_0 _ _ (by sl_kernel_rfl) x
  · exact row_apply 4 inb_S9x196x128_S1x196x128_4_0_0 _ _ (by sl_kernel_rfl) x
  · exact row_apply 3 inb_S9x196x128_S1x196x128_3_0_0 _ _ (by sl_kernel_rfl) x
  · exact row_apply 2 inb_S9x196x128_S1x196x128_2_0_0 _ _ (by sl_kernel_rfl) x
  · exact row_apply 1 inb_S9x196x128_S1x196x128_1_0_0 _ _ (by sl_kernel_rfl) x
  · exact row_apply 0 inb_S9x196x128_S1x196x128_0_0_0 _ _ (by sl_kernel_rfl) x

/-- A point between the first and the last leaves the scratch that holds the features as it was. -/
theorem features_B (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : ¬cond0_0 i) (hc1 : ¬cond0_1 i)
    (x0 : Vec F S196x1536 .f32) (x1 : Vec F S4000x1536 .f32) (xs0 : Vec F S196x1536 .bf16) (xs1 : Vec F S9x196x128 .f32) :
    sout0_B_0 c i arg1 harg1 arg2 harg2 arg3 harg3 arg4 harg4 arg5 harg5 hc0 hc1 x0 x1 xs0 xs1 = xs0 := by
  rfl

/-- The last point leaves the scratch that holds the features as it was. -/
theorem features_C (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : ¬cond0_0 i) (hc1 : cond0_1 i)
    (x0 : Vec F S196x1536 .f32) (x1 : Vec F S4000x1536 .f32) (xs0 : Vec F S196x1536 .bf16) (xs1 : Vec F S9x196x128 .f32) :
    sout0_C_0 c i arg1 harg1 arg2 harg2 arg3 harg3 arg4 harg4 arg5 harg5 hc0 hc1 x0 x1 xs0 xs1 = xs0 := by
  rfl

end Cert.KernelIdeal.Knn

end
-- ==== Proof.Final.lean ====
/-
  What the last grid point writes: nine times the smallest candidate of a row is taken out and its distance added up, and
  the total is divided by nine.
-/
module

public import proofs.«01_k».proof.Proof.Step

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI Idealize.SL.Sem
open Cert.KernelIdeal.Gen Cert.Network

variable {F : FTy → Type} [FloatOps F]

/-- The candidates of every row: the nine kept vectors side by side. -/
def candV (X : Vec F S9x196x128 .f32) : FVec F S196x1152 .f32 :=
  k0_pay8 (View.ld X (Rect.unit ![0, 0, 0] S1x196x128.size inb_S9x196x128_S1x196x128_0_0_0))
    (View.ld X (Rect.unit ![1, 0, 0] S1x196x128.size inb_S9x196x128_S1x196x128_1_0_0))
    (View.ld X (Rect.unit ![2, 0, 0] S1x196x128.size inb_S9x196x128_S1x196x128_2_0_0))
    (View.ld X (Rect.unit ![3, 0, 0] S1x196x128.size inb_S9x196x128_S1x196x128_3_0_0))
    (View.ld X (Rect.unit ![4, 0, 0] S1x196x128.size inb_S9x196x128_S1x196x128_4_0_0))
    (View.ld X (Rect.unit ![5, 0, 0] S1x196x128.size inb_S9x196x128_S1x196x128_5_0_0))
    (View.ld X (Rect.unit ![6, 0, 0] S1x196x128.size inb_S9x196x128_S1x196x128_6_0_0))
    (View.ld X (Rect.unit ![7, 0, 0] S1x196x128.size inb_S9x196x128_S1x196x128_7_0_0))
    (View.ld X (Rect.unit ![8, 0, 0] S1x196x128.size inb_S9x196x128_S1x196x128_8_0_0))

/-- The column numbers. -/
def colV : IVec S196x1152 32 := iota .tc S196x1152 32 [1] iota_S196x1152_d1_w32

/-- The smallest candidate of every row. -/
def minV (c : FVec F S196x1152 .f32) : FVec F S196x1 .f32 :=
  shapeCast S196x1 (multiReduction .minimumf [1] S196 c 0x7F800000#32 reduces_S196x1152_S196 (.inl rfl) rfl) shapeCasts_S196_S196x1

/-- The candidates with the first smallest one of every row replaced by plus infinity. -/
def nextV (c : FVec F S196x1152 .f32) : FVec F S196x1152 .f32 := k0_pay12 c colV (minV c)

/-- The distance the smallest candidate of every row stands for, `fn` the features' squared norms. -/
def distV (fn : FVec F S196x1 .f32) (c : FVec F S196x1152 .f32) : FVec F S196x1 .f32 :=
  sqrt (maximumf (addf (minV c) fn) (broadcast S196x1 (Scalar.ofBits .f32 0x2B8CBCCC#32)))

/-- The total after a number of further rounds. -/
def totalV (fn : FVec F S196x1 .f32) : ℕ → FVec F S196x1152 .f32 → FVec F S196x1 .f32 → FVec F S196x1 .f32
  | 0, _, t => t
  | n + 1, c, t => totalV fn n (nextV c) (addf t (distV fn c))

/-- The block the last point writes: the total of nine rounds divided by nine, in every lane. -/
def outV (fn : FVec F S196x1 .f32) (c : FVec F S196x1152 .f32) : FVec F S196x128 .f32 :=
  broadcastTo S196x128 (shapeCast S196x1 (divf (totalV fn 9 c k0_pay9) (broadcast S196x1 (Scalar.ofBits .f32 0x41100000#32)))
    shapeCasts_S196x1_S196x1) broadcasts_S196x1_S196x128

set_option maxHeartbeats 2000000 in
/-- What the last point writes to the result's block. -/
theorem out_C (c : Dev nD) (i : grid0.Coords) (arg1 : Memref sig .tc .vmem S196x1536 .f32) (harg1 : arg1.IsWhole)
    (arg2 : Memref sig .tc .vmem S4000x1536 .f32) (harg2 : arg2.IsWhole) (arg3 : Memref sig .tc .vmem S196x128 .f32)
    (harg3 : arg3.IsWhole) (arg4 : Memref sig .tc .vmem S196x1536 .bf16) (harg4 : arg4.IsWhole)
    (arg5 : Memref sig .tc .vmem S9x196x128 .f32) (harg5 : arg5.IsWhole) (hc0 : ¬cond0_0 i) (hc1 : cond0_1 i)
    (x0 : Vec F S196x1536 .f32) (x1 : Vec F S4000x1536 .f32) (xs0 : Vec F S196x1536 .bf16) (xs1 : Vec F S9x196x128 .f32) :
    out0_C_2 c i arg1 harg1 arg2 harg2 arg3 harg3 arg4 harg4 arg5 harg5 hc0 hc1 x0 x1 xs0 xs1
      = outV (k0_pay7 x0) (candV (scratchOf (stepV (k0_pay34 xs0 x1) (runsOf xs1)))) := by
  frame_out
  generalize hL : (List.cons (α := View.Piece (Elt F) S9x196x128 .f32) _ _) = L
  have hcov : ∀ y, ∃ p ∈ L, y ∈ p.1.set := by
    subst hL
    exact View.cover_of_tiledL (s := S9x196x128) _ S1x196x128.size (by sl_kernel_rfl)
  have hcan : View.canon L = scratchOf (stepV (k0_pay34 xs0 x1) (runsOf xs1)) := by
    subst hL
    funext y
    refine View.canon_apply_of_pieces (scratchOf (stepV (k0_pay34 xs0 x1) (runsOf xs1))) _ (View.PiecesOf.mem ?_) y (hcov y)
    refine ⟨?_, ?_, ?_, ?_, ?_, ?_, ?_, ?_, ?_, trivial⟩
    all_goals intro x
    · exact row_apply 8 inb_S9x196x128_S1x196x128_8_0_0 _ _ (by sl_kernel_rfl) x
    · exact row_apply 7 inb_S9x196x128_S1x196x128_7_0_0 _ _ (by sl_kernel_rfl) x
    · exact row_apply 6 inb_S9x196x128_S1x196x128_6_0_0 _ _ (by sl_kernel_rfl) x
    · exact row_apply 5 inb_S9x196x128_S1x196x128_5_0_0 _ _ (by sl_kernel_rfl) x
    · exact row_apply 4 inb_S9x196x128_S1x196x128_4_0_0 _ _ (by sl_kernel_rfl) x
    · exact row_apply 3 inb_S9x196x128_S1x196x128_3_0_0 _ _ (by sl_kernel_rfl) x
    · exact row_apply 2 inb_S9x196x128_S1x196x128_2_0_0 _ _ (by sl_kernel_rfl) x
    · exact row_apply 1 inb_S9x196x128_S1x196x128_1_0_0 _ _ (by sl_kernel_rfl) x
    · exact row_apply 0 inb_S9x196x128_S1x196x128_0_0_0 _ _ (by sl_kernel_rfl) x
  clear hL
  simp only [View.readCov_eq_canon_ld _ _ _ hcov, hcan]
  generalize scratchOf (stepV (k0_pay34 xs0 x1) (runsOf xs1)) = X
  sl_kernel_rfl

end Cert.KernelIdeal.Knn

end
-- ==== Proof.Select.lean ====
/-
  Counting: the k-th smallest value of a family, how taking out the smallest values one by one finds it, and how lanes that
  keep their nine smallest values count what lies up to a bound.
-/
module

public import Mathlib.Data.EReal.Basic
public import Mathlib.Algebra.BigOperators.Fin
public import Mathlib.Algebra.Order.BigOperators.Group.Finset
public import proofs.«01_k».proof.Proof.Network

@[expose] public section

namespace Cert.Select

variable {N : ℕ}

/-- How many values of a family lie up to `x`. -/
noncomputable def hits {ι α : Type} [Fintype ι] [LinearOrder α] (S : ι → α) (x : α) : ℕ := (Finset.univ.filter fun p => S p ≤ x).card

/-- `v` is the value at place `k` (counted from zero) of the family put in ascending order: more than `k` values lie up
    to `v`, and no more than `k` lie below it. -/
def IsKth {ι α : Type} [Fintype ι] [LinearOrder α] (S : ι → α) (k : ℕ) (v : α) : Prop :=
  k < hits S v ∧ (Finset.univ.filter fun p => S p < v).card ≤ k

section order
variable {ι α β : Type} [Fintype ι] [LinearOrder α] [LinearOrder β]

/-- A count over a family is a sum of ones. -/
theorem hits_eq_sum (S : ι → α) (x : α) : hits S x = ∑ p, if S p ≤ x then 1 else 0 := by
  unfold hits
  rw [Finset.card_filter]

/-- There is one value at each place at most. -/
theorem IsKth.unique {S : ι → α} {k : ℕ} {v w : α} (hv : IsKth S k v) (hw : IsKth S k w) : v = w := by
  have key : ∀ {a b : α}, IsKth S k a → IsKth S k b → ¬ a < b := by
    intro a b ha hb hab
    have h : hits S a ≤ (Finset.univ.filter fun p => S p < b).card :=
      Finset.card_le_card fun p hp => by
        simp only [Finset.mem_filter, Finset.mem_univ, true_and] at hp ⊢
        exact lt_of_le_of_lt hp hab
    exact absurd (lt_of_lt_of_le ha.1 (h.trans hb.2)) (lt_irrefl _)
  exact le_antisymm (not_lt.mp (key hw hv)) (not_lt.mp (key hv hw))

/-- A monotone function carries the value at a place to the value at that place. -/
theorem IsKth.mono {S : ι → α} {k : ℕ} {v : α} (hv : IsKth S k v) {g : α → β} (hg : Monotone g) :
    IsKth (fun p => g (S p)) k (g v) := by
  refine ⟨lt_of_lt_of_le hv.1 (Finset.card_le_card fun p hp => ?_), le_trans (Finset.card_le_card fun p hp => ?_) hv.2⟩
  · simp only [Finset.mem_filter, Finset.mem_univ, true_and] at hp ⊢
    exact hg hp
  · simp only [Finset.mem_filter, Finset.mem_univ, true_and] at hp ⊢
    exact not_le.mp fun h => absurd hp (not_lt.mpr (hg h))

/-- A value that lies up to exactly those bounds below the top that more than `k` values lie up to is the value at place
    `k`, when there are more than `k` values. -/
theorem isKth_of_bounds [OrderTop α] (S : ι → α) (k : ℕ) (v : α) (hN : k < Fintype.card ι)
    (h : ∀ x, x < ⊤ → (v ≤ x ↔ k < hits S x)) : IsKth S k v := by
  constructor
  · rcases eq_or_lt_of_le (le_top (a := v)) with hv | hv
    · rw [hv]
      have : hits S ⊤ = Fintype.card ι := by
        unfold hits
        rw [Finset.filter_true_of_mem fun p _ => le_top]
        rfl
      omega
    · exact (h v hv).mp le_rfl
  · rcases Finset.eq_empty_or_nonempty (Finset.univ.filter fun p => S p < v) with he | hne
    · rw [he]; simp
    · obtain ⟨q, hq, hmax⟩ := Finset.exists_max_image _ S hne
      simp only [Finset.mem_filter, Finset.mem_univ, true_and] at hq hmax
      have h1 : ¬ k < hits S (S q) := fun hk =>
        absurd ((h (S q) (lt_of_lt_of_le hq le_top)).mpr hk) (not_le.mpr hq)
      refine le_trans (Finset.card_le_card fun p hp => ?_) (not_lt.mp h1)
      simp only [Finset.mem_filter, Finset.mem_univ, true_and] at hp ⊢
      exact hmax p hp

/-- The entry at place `k` of an ascending arrangement of a family is the value at place `k`. -/
theorem isKth_of_sorted {n : ℕ} (S : Fin n → α) (σ : Fin n → Fin n) (hσ : Function.Injective σ)
    (hS : ∀ i j, i < j → S (σ i) ≤ S (σ j)) (k : Fin n) : IsKth S k.val (S (σ k)) := by
  have hmono : ∀ i j, i ≤ j → S (σ i) ≤ S (σ j) := by
    intro i j hij
    rcases eq_or_lt_of_le hij with rfl | h
    · exact le_rfl
    · exact hS i j h
  have hsur : Function.Surjective σ := Finite.injective_iff_surjective.mp hσ
  constructor
  · have h : (Finset.univ.filter fun i : Fin n => i ≤ k).image σ ⊆ Finset.univ.filter fun p => S p ≤ S (σ k) := by
      intro p hp
      simp only [Finset.mem_image, Finset.mem_filter, Finset.mem_univ, true_and] at hp ⊢
      obtain ⟨i, hi, rfl⟩ := hp
      exact hmono i k hi
    have hc := Finset.card_le_card h
    rw [Finset.card_image_of_injective _ hσ] at hc
    have : (Finset.univ.filter fun i : Fin n => i ≤ k).card = k.val + 1 := by
      have : (Finset.univ.filter fun i : Fin n => i ≤ k) = Finset.Iic k := by ext; simp
      rw [this, Fin.card_Iic]
    unfold hits
    omega
  · have h : (Finset.univ.filter fun p => S p < S (σ k)) ⊆ (Finset.univ.filter fun i : Fin n => i < k).image σ := by
      intro p hp
      simp only [Finset.mem_image, Finset.mem_filter, Finset.mem_univ, true_and] at hp ⊢
      obtain ⟨i, rfl⟩ := hsur p
      exact ⟨i, not_le.mp fun hki => absurd hp (not_lt.mpr (hmono k i hki)), rfl⟩
    have hc := Finset.card_le_card h
    rw [Finset.card_image_of_injective _ hσ] at hc
    have : (Finset.univ.filter fun i : Fin n => i < k).card = k.val := by
      have : (Finset.univ.filter fun i : Fin n => i < k) = Finset.Iio k := by ext; simp
      rw [this, Fin.card_Iio]
    omega

/-- The least value of a family lies up to `x` exactly when some value does. -/
theorem fold_min_le_iff [OrderTop α] (c : ι → α) {x : α} (hx : x < ⊤) :
    Finset.univ.fold min ⊤ c ≤ x ↔ 0 < hits c x := by
  unfold hits
  rw [Finset.fold_min_le, Finset.card_pos]
  constructor
  · rintro (h | ⟨p, hp, h⟩)
    · exact absurd (lt_of_le_of_lt h hx) (lt_irrefl _)
    · exact ⟨p, by simpa using h⟩
  · rintro ⟨p, hp⟩
    exact Or.inr ⟨p, Finset.mem_univ p, by simpa using hp⟩

/-- Replacing the least value of a family by the top takes one away from every count below the top. -/
theorem hits_drop [DecidableEq ι] [OrderTop α] (c c' : ι → α) (j : ι) (hj : c j = Finset.univ.fold min ⊤ c)
    (hc' : ∀ k, c' k = if k = j then ⊤ else c k) {x : α} (hx : x < ⊤) : hits c' x = hits c x - 1 := by
  have hle : c j ≤ x ↔ 0 < hits c x := by rw [hj]; exact fold_min_le_iff c hx
  have he : (Finset.univ.filter fun k => c' k ≤ x) = (Finset.univ.filter fun k => c k ≤ x).erase j := by
    ext k
    simp only [Finset.mem_filter, Finset.mem_univ, true_and, Finset.mem_erase]
    rw [hc']
    by_cases hk : k = j
    · simp [hk, hx.ne]
    · simp [hk]
  unfold hits at hle ⊢
  rw [he]
  by_cases h : c j ≤ x
  · rw [Finset.card_erase_of_mem (by simpa using h)]
  · have h0 : (Finset.univ.filter fun k => c k ≤ x).card = 0 := by
      rw [hle] at h; omega
    rw [Finset.card_eq_zero] at h0
    rw [h0]; rfl

end order

/-- Counts cut off at nine lane by lane decide the first nine places of the whole. -/
theorem lt_sum_min_iff {L : Type} [Fintype L] (n : L → ℕ) (k : ℕ) (hk : k < 9) :
    k < ∑ l, min 9 (n l) ↔ k < ∑ l, n l := by
  constructor
  · intro h
    exact lt_of_lt_of_le h (Finset.sum_le_sum fun l _ => min_le_right _ _)
  · intro h
    by_cases hall : ∀ l, n l ≤ 9
    · rwa [Finset.sum_congr rfl fun l _ => min_eq_right (hall l)]
    · push Not at hall
      obtain ⟨l, hl⟩ := hall
      have := Finset.single_le_sum (f := fun l => min 9 (n l)) (fun l _ => Nat.zero_le _) (Finset.mem_univ l)
      have h9 : min 9 (n l) = 9 := min_eq_left hl.le
      omega

open Cert.Network in
/-- Nine kept values count what is at hand up to `x`, up to nine. -/
theorem hits_of_meets {α : Type} [LinearOrder α] {r : Nine α} {x : α} {n : ℕ} (h : Meets r x n) : hits r.get x = min 9 n := by
  unfold hits
  have : (Finset.univ.filter fun j => r.get j ≤ x) = Finset.univ.filter fun j : Fin 9 => j.val < n :=
    Finset.filter_congr fun j _ => h j
  rw [this, Fin.card_filter_val_lt]

/-- A sum over a split index is the double sum. -/
theorem sum_split {M : Type} [AddCommMonoid M] {m n : ℕ} (f : ℕ → M) :
    ∑ p : Fin (m * n), f p.val = ∑ a : Fin m, ∑ b : Fin n, f (n * a.val + b.val) := by
  rw [← Fintype.sum_prod_type', ← Equiv.sum_comp finProdFinEquiv]
  refine Finset.sum_congr rfl fun p _ => ?_
  rw [finProdFinEquiv_apply_val, add_comm]

end Cert.Select
-- ==== Proof.Lanes.lean ====
/-
  One lane of the kept vectors: what a grid point reads of its block's distances there, and how the point changes the number
  of values a lane has met up to a bound.
-/
module

public import proofs.«01_k».proof.Proof.Step
public import proofs.«01_k».proof.Proof.Select

@[expose] public section

set_option maxRecDepth 16384

noncomputable section

namespace Cert.KernelIdeal.Knn

open Idealize.ShloMosaic Idealize.ShloMosaic.TcCoe Idealize.ShloMosaic.Tactic
open Cert.KernelIdeal.Gen Cert.Network Cert.Select

/-- The word of plus infinity is the top. -/
theorem word_inf : Ideal.ofBits .f32 2139095040#32 = ⊤ := by
  simp [Ideal.ofBits, Ideal.ieee]

/-- The value lane `l` reads from chunk `c` of a row of 4000 distances; past the row's end it reads plus infinity. -/
def chunkAt (d : Fin 4000 → EReal) (l c : ℕ) : EReal := if h : 128 * c + l < 4000 then d ⟨128 * c + l, h⟩ else ⊤

/-- How many values up to `x` lane `l` reads from a row. -/
def laneHits (d : Fin 4000 → EReal) (x : EReal) (l : ℕ) : ℕ := ∑ c : Fin 32, if chunkAt d l c.val ≤ x then 1 else 0

/-- All lanes together read every distance of the row once. -/
theorem sum_laneHits (d : Fin 4000 → EReal) {x : EReal} (hx : x < ⊤) : ∑ l : Fin 128, laneHits d x l.val = hits d x := by
  unfold laneHits
  rw [Finset.sum_comm]
  have h1 := sum_split (m := 32) (n := 128)
    (fun p => if (if h : p < 4000 then d ⟨p, h⟩ else ⊤) ≤ x then 1 else 0)
  refine Eq.trans h1.symm ?_
  show ∑ p : Fin (4000 + 96), _ = _
  rw [Fin.sum_univ_add, hits_eq_sum]
  have h2 : ∀ p : Fin 96, (if (if h : (Fin.natAdd 4000 p).val < 4000 then d ⟨(Fin.natAdd 4000 p).val, h⟩ else ⊤) ≤ x then 1 else 0) = 0 := by
    intro p
    rw [dif_neg (by simp), if_neg (not_le.mpr hx)]
  rw [Finset.sum_congr rfl fun p _ => h2 p]
  simp only [Finset.sum_const_zero, add_zero]
  refine Finset.sum_congr rfl fun p _ => ?_
  rw [dif_pos (by simp)]
  rfl

/-- The count of eight values up to a bound, written out. -/
theorem upTo_eq {α : Type} [LinearOrder α] (x a b c d e f g h : α) :
    upTo x (⟨a, b, c, d, e, f, g, h⟩ : Eight α) = (if a ≤ x then 1 else 0) + (if b ≤ x then 1 else 0) + (if c ≤ x then 1 else 0)
      + (if d ≤ x then 1 else 0) + (if e ≤ x then 1 else 0) + (if f ≤ x then 1 else 0) + (if g ≤ x then 1 else 0)
      + (if h ≤ x then 1 else 0) := by
  simp only [upTo, trues, Eight.list, Eight.map, List.count_cons, List.count_nil, beq_iff_eq, decide_eq_true_eq]
  omega

/-- What a lane reads from a group of eight chunks. -/
def chunksAt (d : Fin 4000 → EReal) (l c : ℕ) : Eight EReal :=
  ⟨chunkAt d l (c + 0), chunkAt d l (c + 1), chunkAt d l (c + 2), chunkAt d l (c + 3), chunkAt d l (c + 4),
   chunkAt d l (c + 5), chunkAt d l (c + 6), chunkAt d l (c + 7)⟩

/-- The four groups' counts add up to the lane's. -/
theorem upTo_chunks (d : Fin 4000 → EReal) (x : EReal) (l : ℕ) :
    upTo x (chunksAt d l 0) + upTo x (chunksAt d l 8) + upTo x (chunksAt d l 16) + upTo x (chunksAt d l 24)
      = laneHits d x l := by
  unfold laneHits chunksAt
  have h1 := sum_split (m := 4) (n := 8) (fun c => if chunkAt d l c ≤ x then 1 else 0)
  refine Eq.trans ?_ h1.symm
  rw [Fin.sum_univ_four]
  simp only [Fin.sum_univ_eight, upTo_eq]
  rfl

section lanes
variable (D : FVec Ideal S196x4000 .f32) (r : Fin 196) (l : Fin 128)

/-- The value of a chunk inside the row. -/
theorem chunkAt_of (c : ℕ) (d : Fin 4000 → EReal) (p : Fin 4000) (h : p.val = 128 * c + l.val) : chunkAt d l.val c = d p := by
  unfold chunkAt
  have hp := p.isLt
  rw [dif_pos (by omega)]
  exact congrArg d (Fin.ext h.symm)

/-- A lane of the first group of chunks. -/
theorem chunks0_at : (chunks0 D).map (fun v => v (ix2 r l)) = chunksAt (fun p => D (ix2 r p)) l.val 0 := by
  unfold chunks0 chunksAt Eight.map k0_pay45 k0_pay46 k0_pay47 k0_pay48 k0_pay49 k0_pay50 k0_pay51 k0_pay52
  congr 1 <;> (pointwise; symm; apply chunkAt_of; simp)

/-- A lane of the second group of chunks. -/
theorem chunks1_at : (chunks1 D).map (fun v => v (ix2 r l)) = chunksAt (fun p => D (ix2 r p)) l.val 8 := by
  unfold chunks1 chunksAt Eight.map k0_pay53 k0_pay54 k0_pay55 k0_pay56 k0_pay57 k0_pay58 k0_pay59 k0_pay60
  congr 1 <;> (pointwise; symm; apply chunkAt_of; simp)

/-- A lane of the third group of chunks. -/
theorem chunks2_at : (chunks2 D).map (fun v => v (ix2 r l)) = chunksAt (fun p => D (ix2 r p)) l.val 16 := by
  unfold chunks2 chunksAt Eight.map k0_pay61 k0_pay62 k0_pay63 k0_pay64 k0_pay65 k0_pay66 k0_pay67 k0_pay68
  congr 1 <;> (pointwise; symm; apply chunkAt_of; simp)

/-- A lane of the padded last chunk. -/
theorem padded_at : k0_pay44 D (ix2 r l) = chunkAt (fun p => D (ix2 r p)) l.val 31 := by
  unfold k0_pay44
  pointwise
  unfold chunkAt
  by_cases h : l.val < 32
  · rw [dif_pos h, dif_pos (by omega)]
  · rw [dif_neg h, dif_neg (by omega), word_inf]

/-- A lane of the last group of chunks. -/
theorem chunks3_at : (chunks3 D).map (fun v => v (ix2 r l)) = chunksAt (fun p => D (ix2 r p)) l.val 24 := by
  unfold chunks3 chunksAt Eight.map
  simp only [padded_at]
  unfold k0_pay69 k0_pay70 k0_pay71 k0_pay72 k0_pay73 k0_pay74 k0_pay75
  congr 1 <;> (pointwise; symm; apply chunkAt_of; simp)

/-- A lane of a group's work is the group's work on the lane. -/
theorem groupV_at (R : Nine (FVec Ideal S196x128 .f32)) (s : Eight (FVec Ideal S196x128 .f32)) :
    (groupV R s).map (fun v => v (ix2 r l)) = group min max (R.map fun v => v (ix2 r l)) (s.map fun v => v (ix2 r l)) := by
  unfold groupV
  exact group_map _ _ _ _ _ (fun a b => by pointwise) (fun a b => by pointwise) R s

/-- A grid point adds what its block brings to the count of values a lane has met. -/
theorem stepV_meets (R : Nine (FVec Ideal S196x128 .f32)) {x : EReal} {n : ℕ} (h : Meets (R.map fun v => v (ix2 r l)) x n) :
    Meets ((stepV D R).map fun v => v (ix2 r l)) x (n + laneHits (fun p => D (ix2 r p)) x l.val) := by
  unfold stepV
  rw [groupV_at, groupV_at, groupV_at, groupV_at, chunks0_at, chunks1_at, chunks2_at, chunks3_at, ← upTo_chunks]
  have := (((h.group (chunksAt (fun p => D (ix2 r p)) l.val 0)).group (chunksAt (fun p => D (ix2 r p)) l.val 8)).group
    (chunksAt (fun p => D (ix2 r p)) l.val 16)).group (chunksAt (fun p => D (ix2 r p)) l.val 24)
  simpa only [add_assoc] using this

/-- A lane of the kept vectors read out of the scratch. -/
theorem runsOf_at (X : Vec Ideal S9x196x128 .f32) (j : Fin 9) :
    ((runsOf X).map fun v => v (ix2 r l)).get j = X (ix3 j r l) := by
  rw [Nine.get_map]
  unfold runsOf
  match j with
  | 0 => dsimp only [Nine.get]; unfold k0_pay35; pointwise
  | 1 => dsimp only [Nine.get]; unfold k0_pay36; pointwise
  | 2 => dsimp only [Nine.get]; unfold k0_pay37; pointwise
  | 3 => dsimp only [Nine.get]; unfold k0_pay38; pointwise
  | 4 => dsimp only [Nine.get]; unfold k0_pay39; pointwise
  | 5 => dsimp only [Nine.get]; unfold k0_pay40; pointwise
  | 6 => dsimp only [Nine.get]; unfold k0_pay41; pointwise
  | 7 => dsimp only [Nine.get]; unfold k0_pay42; pointwise
  | 8 => dsimp only [Nine.get]; unfold k0_pay43; pointwise

/-- A lane of the scratch written from nine vectors. -/
theorem scratchOf_at (R : Nine (FVec Ideal S196x128 .f32)) (j : Fin 9) :
    scratchOf R (ix3 j r l) = (R.map fun v => v (ix2 r l)).get j := by
  rw [Nine.get_map]
  rfl

/-- The scratch has met `n l` values up to `x` in lane `l` of row `r`. -/
def Kept (X : Vec Ideal S9x196x128 .f32) (r : Fin 196) (l : Fin 128) (x : EReal) (n : ℕ) : Prop :=
  ∀ j : Fin 9, X (ix3 j r l) ≤ x ↔ j.val < n

/-- A grid point's scratch has met what it had met before and what the point's block brings. -/
theorem Kept.step {X : Vec Ideal S9x196x128 .f32} {x : EReal} {n : ℕ} (h : Kept X r l x n) :
    Kept (scratchOf (stepV D (runsOf X))) r l x (n + laneHits (fun p => D (ix2 r p)) x l.val) := by
  intro j
  rw [scratchOf_at]
  exact stepV_meets D r l (runsOf X) (fun j => by rw [runsOf_at]; exact h j) j

/-- The first scratch, all plus infinity, has met nothing below the top. -/
theorem Kept.init {x : EReal} (hx : x < ⊤) : Kept (k0_pay32 (F := Ideal)) r l x 0 := by
  intro j
  have : k0_pay32 (F := Ideal) (ix3 j r l) = ⊤ := by
    unfold k0_pay32
    pointwise
    exact word_inf
  rw [this]
  simp [hx.ne]

end lanes

end Cert.KernelIdeal.Knn

end
-- ==== Proof.Rounds.lean ====
/-
  The nine rounds of the last grid point, row by row: each takes the smallest candidate out, so the smallest candidates of the
  successive rounds are the values at places 0, 1, … of what the lanes have met.
-/
module

public import proofs.«01_k».proof.Proof.Final
public import proofs.«01_k».proof.Proof.Lanes

@[expose] public section

set_option maxRecDepth 16384

noncomputable section

namespace Cert.KernelIdeal.Knn

open Idealize.ShloMosaic Idealize.ShloMosaic.TcCoe Idealize.ShloMosaic.Tactic
open Cert.KernelIdeal.Gen Cert.Network Cert.Select

/-- The signed minimum of two words reads as the minimum of their integers. -/
theorem minsi_toInt (a b : BitVec 32) : (IntOp.minsi a b).toInt = min a.toInt b.toInt := by
  show (if a.slt b then a else b).toInt = _
  by_cases h : a.toInt < b.toInt
  · rw [if_pos (by simpa [BitVec.slt] using h), min_eq_left h.le]
  · rw [if_neg (by simpa [BitVec.slt] using h), min_eq_right (not_lt.mp h)]

/-- A column's word reads as the column. -/
theorem column_toInt (k : ℕ) (hk : k < 1152) : (BitVec.ofNat 32 k).toInt = k := by
  have h : (BitVec.ofNat 32 k).toNat = k := by rw [BitVec.toNat_ofNat]; omega
  rw [BitVec.toInt_eq_toNat_of_lt (by rw [h]; omega), h]

/-- The least word among the columns that hold `m` names a column that holds `m`. -/
theorem exists_first (c : Fin 1152 → EReal) (m : EReal) (h : ∃ k, c k = m) :
    ∃ j : Fin 1152, c j = m ∧ Finset.univ.fold IntOp.minsi 2147483647#32
      (fun k : Fin 1152 => if c k = m then BitVec.ofNat 32 k.val else 1073741824#32) = BitVec.ofNat 32 j.val := by
  obtain ⟨k, hk⟩ := h
  obtain ⟨j, hj, hmin⟩ := Finset.exists_min_image (Finset.univ.filter fun k => c k = m) (fun k : Fin 1152 => k.val)
    ⟨k, by simpa using hk⟩
  simp only [Finset.mem_filter, Finset.mem_univ, true_and] at hj hmin
  refine ⟨j, hj, BitVec.eq_of_toInt_eq ?_⟩
  rw [← Finset.fold_hom minsi_toInt, column_toInt _ j.isLt]
  have hjl := j.isLt
  apply le_antisymm
  · rw [Finset.fold_min_le]
    exact Or.inr ⟨j, Finset.mem_univ j, by rw [if_pos hj, column_toInt _ j.isLt]⟩
  · rw [Finset.le_fold_min]
    refine ⟨?_, fun k _ => ?_⟩
    · rw [show (2147483647#32 : BitVec 32).toInt = 2147483647 from by decide]; omega
    · by_cases hk : c k = m
      · rw [if_pos hk, column_toInt _ k.isLt]
        exact_mod_cast hmin k hk
      · rw [if_neg hk, show (1073741824#32 : BitVec 32).toInt = 1073741824 from by decide]
        omega

/-- The least value of a nonempty family is one of its values. -/
theorem exists_fold_min {n : ℕ} (c : Fin (n + 1) → EReal) : ∃ k, c k = Finset.univ.fold min ⊤ c := by
  obtain ⟨k, -, hk⟩ := Finset.exists_min_image Finset.univ c ⟨0, Finset.mem_univ _⟩
  refine ⟨k, le_antisymm ?_ ?_⟩
  · rw [Finset.le_fold_min]
    exact ⟨le_top, hk⟩
  · rw [Finset.fold_min_le]
    exact Or.inr ⟨k, Finset.mem_univ k, le_rfl⟩

/-- A choice by an equality test of words. -/
theorem select_eq (a b : BitVec 32) (x y : EReal) :
    Scalar.select (IntOp.cmpi .eq a b) x y = if a = b then x else y := by
  by_cases h : a = b
  · rw [if_pos h]; subst h; simp [Scalar.select, IntOp.cmpi]
  · have hb : (a == b) = false := beq_eq_false_iff_ne.mpr h
    rw [if_neg h]
    simp [Scalar.select, IntOp.cmpi, hb]

section rows
variable (c : FVec Ideal S196x1152 .f32) (r : Fin 196)

/-- The smallest candidate of a row. -/
theorem minV_at (u : Fin 1) : minV c (ix2 r u) = Finset.univ.fold min ⊤ (fun k : Fin 1152 => c (ix2 r k)) := by
  unfold minV
  pointwise
  rw [word_inf]

/-- A round replaces one smallest candidate of each row by plus infinity. -/
theorem nextV_at : ∃ j : Fin 1152, c (ix2 r j) = Finset.univ.fold min ⊤ (fun k : Fin 1152 => c (ix2 r k))
    ∧ ∀ k, nextV c (ix2 r k) = if k = j then ⊤ else c (ix2 r k) := by
  obtain ⟨j, hj, hw⟩ := exists_first (fun k => c (ix2 r k)) _ (exists_fold_min fun k => c (ix2 r k))
  refine ⟨j, hj, fun k => ?_⟩
  unfold nextV k0_pay12 colV
  pointwise
  rw [minV_at, hw, word_inf, select_eq]
  refine if_congr ⟨fun h => ?_, fun h => by rw [h]⟩ rfl rfl
  have := congrArg BitVec.toInt h
  rw [column_toInt _ k.isLt, column_toInt _ j.isLt] at this
  exact Fin.ext (by exact_mod_cast this)

/-- A round takes one away from the count of a row's candidates up to a bound below the top. -/
theorem nextV_hits {x : EReal} (hx : x < ⊤) :
    hits (fun k : Fin 1152 => nextV c (ix2 r k)) x = hits (fun k : Fin 1152 => c (ix2 r k)) x - 1 := by
  obtain ⟨j, hj, hn⟩ := nextV_at c r
  exact hits_drop (fun k : Fin 1152 => c (ix2 r k)) _ j hj hn hx

/-- The candidates after a number of rounds. -/
def roundV (n : ℕ) : FVec Ideal S196x1152 .f32 := nextV^[n] c

/-- The count of a row's candidates after a number of rounds. -/
theorem roundV_hits {x : EReal} (hx : x < ⊤) (n : ℕ) :
    hits (fun k : Fin 1152 => roundV c n (ix2 r k)) x = hits (fun k : Fin 1152 => c (ix2 r k)) x - n := by
  induction n with
  | zero => rfl
  | succ n ih =>
    unfold roundV at ih ⊢
    rw [Function.iterate_succ_apply', nextV_hits _ r hx, ih, Nat.sub_sub]

/-- The smallest candidate of a round lies up to a bound exactly when more candidates than rounds do. -/
theorem roundV_min {x : EReal} (hx : x < ⊤) (n : ℕ) (u : Fin 1) :
    minV (roundV c n) (ix2 r u) ≤ x ↔ n < hits (fun k : Fin 1152 => c (ix2 r k)) x := by
  rw [minV_at, fold_min_le_iff _ hx, roundV_hits c r hx]
  omega

variable (fn : FVec Ideal S196x1 .f32)

/-- The distance a candidate value `u` stands for in a row whose feature's squared norm is `a`. -/
def distOf (a u : EReal) : EReal := Ideal.sqrt (max (u + a) (Ideal.ofBits .f32 730643660#32))

/-- The distance a round adds. -/
theorem distV_at (u : Fin 1) : distV fn c (ix2 r u) = distOf (fn (ix2 r u)) (minV c (ix2 r u)) := by
  unfold distV distOf
  pointwise

/-- The total after a number of rounds. -/
theorem totalV_at (u : Fin 1) : ∀ (n : ℕ) (c : FVec Ideal S196x1152 .f32) (t : FVec Ideal S196x1 .f32),
    totalV fn n c t (ix2 r u) = t (ix2 r u) + ∑ k : Fin n, distV fn (roundV c k.val) (ix2 r u)
  | 0, c, t => by simp [totalV]
  | n + 1, c, t => by
    have h1 : addf t (distV fn c) (ix2 r u) = t (ix2 r u) + distV fn c (ix2 r u) := by pointwise
    have h2 : ∀ k : Fin n, roundV c k.succ.val = roundV (nextV c) k.val := fun k => Function.iterate_succ_apply nextV k.val c
    have h3 : roundV c (0 : Fin (n + 1)).val = c := rfl
    rw [totalV, totalV_at u n, Fin.sum_univ_succ, ← add_assoc, h1, h3]
    simp only [h2]

/-- The block the last point writes holds in every lane the row's total divided by nine. -/
theorem outV_at (l : Fin 128) :
    outV fn c (ix2 r l) = Ideal.div (∑ k : Fin 9, distOf (fn (ix2 r 0)) (minV (roundV c k.val) (ix2 r 0)))
      (Ideal.ofBits .f32 1091567616#32) := by
  unfold outV
  pointwise
  have h0 : k0_pay9 (F := Ideal) (ix2 r 0) = 0 := by
    unfold k0_pay9
    pointwise
  rw [totalV_at, h0, zero_add]
  simp only [distV_at]

end rows

section candidates
variable (X : Vec Ideal S9x196x128 .f32) (r : Fin 196)

/-- Equal positions hold equal values. -/
theorem entry_congr (a j : Fin 9) (k l : Fin 128) (h : a.val = j.val) (h' : k.val = l.val) : X (ix3 a r k) = X (ix3 j r l) := by
  rw [Fin.ext h, Fin.ext h']

/-- Column `128 j + l` of the candidates is lane `l` of the `j`-th kept vector. -/
theorem candV_at (k : Fin 1152) (j : Fin 9) (l : Fin 128) (h : k.val = 128 * j.val + l.val) :
    candV X (ix2 r k) = X (ix3 j r l) := by
  have hl := l.isLt
  unfold candV k0_pay8
  pointwise
  fin_vals j with hj
  all_goals
    repeat (first | rw [dif_neg (by omega)] | rw [dif_pos (by omega)])
    refine entry_congr X r _ _ _ _ (by rw [hj]; rfl) ?_
    simp only
    omega

/-- The candidates up to a bound are the lanes' kept values up to it. -/
theorem candV_hits (x : EReal) :
    hits (fun k : Fin 1152 => candV X (ix2 r k)) x = ∑ l : Fin 128, hits (fun j : Fin 9 => X (ix3 j r l)) x := by
  simp only [hits_eq_sum]
  rw [Finset.sum_comm]
  have h1 := sum_split (m := 9) (n := 128)
    (fun p => if h : p < 1152 then (if candV X (ix2 r ⟨p, h⟩) ≤ x then 1 else 0) else 0)
  have h2 : ∀ p : Fin 1152, (if candV X (ix2 r p) ≤ x then 1 else 0)
      = if h : p.val < 1152 then (if candV X (ix2 r ⟨p.val, h⟩) ≤ x then 1 else 0) else 0 := fun p => by
    rw [dif_pos p.isLt]
  rw [Finset.sum_congr rfl fun p _ => h2 p]
  refine Eq.trans h1 ?_
  refine Finset.sum_congr rfl fun j _ => Finset.sum_congr rfl fun l _ => ?_
  have hj := j.isLt
  have hl := l.isLt
  rw [dif_pos (by omega), candV_at X r _ j l rfl]

end candidates

end Cert.KernelIdeal.Knn

end
-- ==== Proof.KernelValue.lean ====
/-
  What the kernel's result holds: for every feature row the mean of nine distances, those of the values at places 0 to 8 of
  the row's scores over the whole bank.
-/
module

public import proofs.«01_k».proof.Proof.Rounds
public import Idealize.ShloMosaic.Lib.Pipeline.Value
public import Idealize.ShloMosaic.Lib.Pipeline.ValueKit.Geometry

@[expose] public section

set_option maxRecDepth 16384

noncomputable section

namespace Cert.KernelIdeal.Knn

open Idealize.ShloMosaic Idealize.ShloMosaic.TcCoe Idealize.ShloMosaic.Tactic
open Idealize.SL.Sem
open Cert.KernelIdeal Cert.KernelIdeal.Gen Cert.Network Cert.Select

/-- The score of bank row `q` for feature row `r`: the contraction of minus two times the feature with the bank row, plus
    the bank row's squared norm. -/
def score (f : FVec Ideal S196x1536 .f32) (b : FVec Ideal S100000x1536 .f32) (r : Fin 196) (q : Fin 100000) : EReal :=
  ∑ x : Fin 1536, Ideal.ofBits .f32 3221225472#32 * f (ix2 r x) * b (ix2 q x) + ∑ x : Fin 1536, b (ix2 q x) * b (ix2 q x)

/-- The scores of block `s` of 4000 bank rows. -/
def blockScore (f : FVec Ideal S196x1536 .f32) (b : FVec Ideal S100000x1536 .f32) (r : Fin 196) (s : ℕ) (p : Fin 4000) : EReal :=
  if h : 4000 * s + p.val < 100000 then score f b r ⟨4000 * s + p.val, h⟩ else 0

/-- The lanes' counts over all 25 blocks add up to the count over the bank. -/
theorem sum_blocks (f : FVec Ideal S196x1536 .f32) (b : FVec Ideal S100000x1536 .f32) (r : Fin 196) {x : EReal} (hx : x < ⊤) :
    ∑ l : Fin 128, ∑ s ∈ Finset.range 25, laneHits (blockScore f b r s) x l.val = hits (score f b r) x := by
  rw [Finset.sum_comm, Finset.sum_congr rfl fun s _ => sum_laneHits (blockScore f b r s) hx, Finset.sum_range]
  simp only [hits_eq_sum]
  have h1 := sum_split (m := 25) (n := 4000)
    (fun q => if (if h : q < 100000 then score f b r ⟨q, h⟩ else 0) ≤ x then 1 else 0)
  refine Eq.trans h1.symm ?_
  show ∑ q : Fin 100000, _ = _
  refine Finset.sum_congr rfl fun q _ => ?_
  rw [dif_pos q.isLt]

variable (m : (ℓ : Loc nD τ sig) → Buf (Elt Ideal) ℓ)

/-- The features as launched. -/
def featOf (c : Dev nD) : FVec Ideal S196x1536 .f32 := m ((c : Thread nD τ).loc main_arg0)

/-- The bank as launched. -/
def bankOf (c : Dev nD) : FVec Ideal S100000x1536 .f32 := m ((c : Thread nD τ).loc main_arg1)

/-- Where the windows' blocks lie: the features' block is the whole array, the bank's is block `t`. -/
theorem idx_blocks : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The features' block at every point is the features. -/
theorem featBlock (c : Dev nD) (t : Fin cfg0.N) : iblk m c 0 t = featOf m c := by
  obtain ⟨e0, e1, -⟩ := idx_blocks t
  funext z
  show V m c main_arg0 (((cfg0.win 0).blk t).view.emb z) = m ((c : Thread nD τ).loc main_arg0) z
  have he : ((cfg0.win 0).blk t).view.emb z = z := by
    funext a; apply Fin.ext
    match a with
    | ⟨0, _⟩ => show win0_0.index t (0 : Fin 2) * 196 + 1 * (z 0).val = (z 0).val; omega
    | ⟨1, _⟩ => show win0_0.index t (1 : Fin 2) * 1536 + 1 * (z 1).val = (z 1).val; omega
  rw [he]
  rfl

/-- Row `p` of the bank's block at point `t` is bank row `4000 t + p`. -/
theorem bankBlock (c : Dev nD) (t : Fin cfg0.N) (p : Fin 4000) (x : Fin 1536) (h : 4000 * t.val + p.val < 100000) :
    (iblk m c 1 t : FVec Ideal S4000x1536 .f32) (ix2 p x) = bankOf m c (ix2 ⟨4000 * t.val + p.val, h⟩ x) := by
  obtain ⟨-, -, e0, e1, -⟩ := idx_blocks t
  show V m c main_arg1 (((cfg0.win 1).blk t).view.emb (ix2 p x)) = m ((c : Thread nD τ).loc main_arg1) _
  have he : ((cfg0.win 1).blk t).view.emb (ix2 p x) = ix2 (n0 := 100000) (n1 := 1536) ⟨4000 * t.val + p.val, h⟩ x := by
    funext a; apply Fin.ext
    match a with
    | ⟨0, _⟩ => show win0_1.index t (0 : Fin 2) * 4000 + 1 * p.val = 4000 * t.val + p.val; omega
    | ⟨1, _⟩ => show win0_1.index t (1 : Fin 2) * 1536 + 1 * x.val = x.val; omega
  rw [he]
  rfl

/-- The distances a point computes are its block's scores. -/
theorem scores_at (c : Dev nD) (t : Fin cfg0.N) (r : Fin 196) :
    (fun p : Fin 4000 => k0_pay34 (F := Ideal) (k0_pay33 (F := Ideal) (featOf m c)) (iblk m c 1 t) (ix2 r p))
      = blockScore (featOf m c) (bankOf m c) r t.val := by
  funext p
  have ht : t.val < 25 := lt_of_lt_of_eq t.isLt N_0
  have hp := p.isLt
  have h : 4000 * t.val + p.val < 100000 := by omega
  unfold blockScore score
  rw [dif_pos h]
  simp only [← bankBlock m c t p _ h]
  generalize (iblk m c 1 t : FVec Ideal S4000x1536 .f32) = B
  generalize featOf m c = f
  unfold k0_pay34 k0_pay33
  pointwise

/-- What a point's block brings to a lane. -/
theorem Kept.block {X Y : Vec Ideal S9x196x128 .f32} {r : Fin 196} {l : Fin 128} {x : EReal} {n : ℕ} (c : Dev nD) (t : Fin cfg0.N)
    (hX : Kept X r l x n)
    (hY : Y = scratchOf (stepV (k0_pay34 (F := Ideal) (k0_pay33 (F := Ideal) (featOf m c)) (iblk m c 1 t)) (runsOf X))) :
    Kept Y r l x (n + laneHits (blockScore (featOf m c) (bankOf m c) r t.val) x l.val) := by
  rw [hY, ← scores_at m c t r]
  exact Kept.step _ r l hX

/-- The scratches after the first point. -/
theorem first_point (c : Dev nD) (h : 0 < cfg0.N) : (outsAt0 m c 0 h).2.1 = k0_pay33 (F := Ideal) (featOf m c)
    ∧ (outsAt0 m c 0 h).2.2
      = scratchOf (stepV (k0_pay34 (F := Ideal) (k0_pay33 (F := Ideal) (featOf m c)) (iblk m c 1 ⟨0, h⟩)) (runsOf (k0_pay32 (F := Ideal)))) := by
  have e := outsAt0_A m c ⟨0, h⟩ rfl (by show ¬(0 % 25 = 24); decide)
  dsimp only at e
  rw [e, ← featBlock m c ⟨0, h⟩]
  dsimp only
  rw [features_A, scratch_A]
  exact ⟨rfl, rfl⟩

/-- The scratches after a later point, over what the point before left. -/
theorem next_point (c : Dev nD) (n : ℕ) (h : n + 1 < cfg0.N) :
    (outsAt0 m c (n + 1) h).2.1 = (outsAt0 m c n (Nat.lt_of_succ_lt h)).2.1
    ∧ (outsAt0 m c (n + 1) h).2.2
      = scratchOf (stepV (k0_pay34 (F := Ideal) (outsAt0 m c n (Nat.lt_of_succ_lt h)).2.1 (iblk m c 1 ⟨n + 1, h⟩))
          (runsOf (outsAt0 m c n (Nat.lt_of_succ_lt h)).2.2)) := by
  have hn : n + 1 < 25 := lt_of_lt_of_eq h N_0
  by_cases h24 : (n + 1) % 25 = 24
  · have e := outsAt0_C m c ⟨n + 1, h⟩ (by dsimp only; omega) h24
    dsimp only [Nat.add_sub_cancel] at e
    rw [e]
    dsimp only
    rw [features_C, scratch_C]
    exact ⟨rfl, rfl⟩
  · have e := outsAt0_B m c ⟨n + 1, h⟩ (by dsimp only; omega) h24
    dsimp only [Nat.add_sub_cancel] at e
    rw [e]
    dsimp only
    rw [features_B, scratch_B]
    exact ⟨rfl, rfl⟩

/-- The last point's block, over the kept vectors it leaves. -/
theorem last_point (c : Dev nD) (n : ℕ) (h : n + 1 < cfg0.N) (h24 : (n + 1) % 25 = 24) :
    (outsAt0 m c (n + 1) h).1 = outV (k0_pay7 (featOf m c)) (candV (outsAt0 m c (n + 1) h).2.2) := by
  have e := outsAt0_C m c ⟨n + 1, h⟩ (by dsimp only; omega) h24
  dsimp only [Nat.add_sub_cancel] at e
  rw [e, ← featBlock m c ⟨n + 1, h⟩]
  dsimp only
  rw [scratch_C]
  exact out_C ..

/-- What the points leave in the two scratches: minus two times the features, and in every lane the values met so far. -/
theorem kept_upTo (c : Dev nD) (n : ℕ) : ∀ (h : n < cfg0.N), (outsAt0 m c n h).2.1 = k0_pay33 (F := Ideal) (featOf m c)
    ∧ ∀ (r : Fin 196) (l : Fin 128) (x : EReal), x < ⊤ → Kept (outsAt0 m c n h).2.2 r l x
      (∑ s ∈ Finset.range (n + 1), laneHits (blockScore (featOf m c) (bankOf m c) r s) x l.val) := by
  induction n with
  | zero =>
    intro h
    obtain ⟨e1, e2⟩ := first_point m c h
    refine ⟨e1, fun r l x hx => ?_⟩
    have := Kept.block m c ⟨0, h⟩ (Kept.init r l hx) e2
    rw [Finset.sum_range_succ, Finset.sum_range_zero]
    exact this
  | succ n ih =>
    intro h
    obtain ⟨ih1, ih2⟩ := ih (Nat.lt_of_succ_lt h)
    obtain ⟨e1, e2⟩ := next_point m c n h
    refine ⟨e1.trans ih1, fun r l x hx => ?_⟩
    rw [ih1] at e2
    rw [Finset.sum_range_succ]
    exact Kept.block m c ⟨n + 1, h⟩ (ih2 r l x hx) e2

/-- The last point of the grid. -/
theorem last_lt : 24 < cfg0.N := lt_of_lt_of_eq (by decide) N_0.symm

/-- The kept vectors after the last point. -/
def keptOf (c : Dev nD) : Vec Ideal S9x196x128 .f32 := (outsAt0 m c 24 last_lt).2.2

/-- Every lane has met all of its values in the end. -/
theorem keptOf_kept (c : Dev nD) (r : Fin 196) (l : Fin 128) {x : EReal} (hx : x < ⊤) : Kept (keptOf m c) r l x
    (∑ s ∈ Finset.range 25, laneHits (blockScore (featOf m c) (bankOf m c) r s) x l.val) := by
  have h := (kept_upTo m c 24 last_lt).2 r l x hx
  have h25 : 24 + 1 = 25 := rfl
  rw [h25] at h
  exact h

/-- What the last point leaves in the result's block. -/
theorem last_block (c : Dev nD) : (outsAt0 m c 24 last_lt).1 = outV (k0_pay7 (featOf m c)) (candV (keptOf m c)) := by
  exact last_point m c 23 last_lt rfl

attribute [local irreducible] keptOf

/-- The smallest candidate of round `k` is the value at place `k` of the row's scores. -/
theorem round_isKth (c : Dev nD) (r : Fin 196) (k : Fin 9) :
    IsKth (score (featOf m c) (bankOf m c) r) k.val (minV (roundV (candV (keptOf m c)) k.val) (ix2 r 0)) := by
  refine isKth_of_bounds _ _ _ (by rw [Fintype.card_fin]; omega) fun x hx => ?_
  rw [roundV_min _ r hx, candV_hits, ← sum_blocks _ _ r hx]
  refine Iff.trans ?_ (lt_sum_min_iff
    (fun l : Fin 128 => ∑ s ∈ Finset.range 25, laneHits (blockScore (featOf m c) (bankOf m c) r s) x l.val) _ k.isLt)
  have hl : ∀ l : Fin 128, hits (fun j : Fin 9 => keptOf m c (ix3 j r l)) x
      = min 9 (∑ s ∈ Finset.range 25, laneHits (blockScore (featOf m c) (bankOf m c) r s) x l.val) := by
    intro l
    have hk := keptOf_kept m c r l hx
    have := hits_of_meets (r := Nine.of fun j : Fin 9 => keptOf m c (ix3 j r l)) (x := x)
      (n := ∑ s ∈ Finset.range 25, laneHits (blockScore (featOf m c) (bankOf m c) r s) x l.val)
      (fun j => by rw [Nine.get_of]; exact hk j)
    rw [← this]
    exact congrArg (fun S => hits S x) (funext fun j => (Nine.get_of (fun j : Fin 9 => keptOf m c (ix3 j r l)) j).symm)
  rw [Finset.sum_congr rfl fun l _ => hl l]

/-- The mean of nine distances. -/
def meanOf (a : EReal) (v : Fin 9 → EReal) : EReal :=
  Ideal.div (∑ k : Fin 9, distOf a (v k)) (Ideal.ofBits .f32 1091567616#32)

/-- The squared norm of a feature row. -/
def sqnorm (f : FVec Ideal S196x1536 .f32) (r : Fin 196) : EReal := ∑ x : Fin 1536, f (ix2 r x) * f (ix2 r x)

/-- What the result's block holds after the last point, at row `r` and lane `l`. -/
theorem last_at (c : Dev nD) (r : Fin 196) (l : Fin 128) :
    (outsAt0 m c 24 last_lt).1 (ix2 r l) = meanOf (sqnorm (featOf m c) r)
      (fun k => minV (roundV (candV (keptOf m c)) k.val) (ix2 r 0)) := by
  rw [last_block, outV_at]
  have : k0_pay7 (F := Ideal) (featOf m c) (ix2 r 0) = sqnorm (featOf m c) r := by
    generalize featOf m c = f
    unfold k0_pay7 sqnorm
    pointwise
  rw [this]
  rfl

/-- The region's output array after the run is the last point's block. -/
theorem final (c : Dev nD) : (dats m 0 c).arrAt 2 cfg0.N = (outsAt0 m c 24 last_lt).1 := by
  refine (dats m 0 c).arrAt_eq_of_covers 2 _ (by decide +kernel) fun t hf y => ?_
  have ht : t.val = 24 := by
    have h1 := (flush0_2 t).mp hf
    have h2 : t.val < 25 := lt_of_lt_of_eq t.isLt N_0
    omega
  obtain ⟨-, -, -, -, e0, e1⟩ := idx_blocks t
  obtain rfl : t = ⟨24, last_lt⟩ := Fin.ext ht
  rw [after0_2]
  have he : ((cfg0.win 2).blk ⟨24, last_lt⟩).view.emb y = y := by
    funext a; apply Fin.ext
    match a with
    | ⟨0, _⟩ => show win0_2.index ⟨24, last_lt⟩ (0 : Fin 2) * 196 + 1 * (y 0).val = (y 0).val; omega
    | ⟨1, _⟩ => show win0_2.index ⟨24, last_lt⟩ (1 : Fin 2) * 128 + 1 * (y 1).val = (y 1).val; omega
  rw [he]
  rfl

/-- The values the lines after the region leave in the result: lane 0 of the region's output. -/
theorem tail_value (c : Dev nD) : Pipeline.afterTail₀ cfgs (dats m) 0 (V0 m) [hostOps1] c main_v2
    = shapeCast S196 (extractStridedSlice S196x1 ![0, 0] ((outsAt0 m c 24 last_lt).1 : FVec Ideal S196x128 .f32)
        slices_S196x128_S196x1_0_0) shapeCasts_S196x1_S196 := by
  have hw : Pipeline.withArrays (cfgs 0).spec c (V0 m c) (fun w => (dats m 0 c).arrAt w (cfgs 0).N)
      (Proc.devRef .tc (Pipeline.arrRef spec0 2)) = (outsAt0 m c 24 last_lt).1 :=
    (Pipeline.withArrays_arr spec0 launch0.win.arr_inj c (V0 m c) (fun w => (dats m 0 c).arrAt w (cfgs 0).N) 2).trans (final m c)
  unfold Pipeline.afterTail₀
  rw [← hw]
  generalize Pipeline.withArrays (cfgs 0).spec c (V0 m c) (fun w => (dats m 0 c).arrAt w (cfgs 0).N) = W
  show StableHlo.after hostOps1 W (Proc.devRef .tc main_v2)
    = shapeCast S196 (extractStridedSlice S196x1 ![0, 0] (W (Proc.devRef .tc main_v0)) slices_S196x128_S196x1_0_0) shapeCasts_S196x1_S196
  after_results
  rfl

/-- The kernel's result. -/
def resultOf (c : Dev nD) : FVec Ideal S196 .f32 := fun i =>
  meanOf (sqnorm (featOf m c) (i 0)) (fun k => minV (roundV (candV (keptOf m c)) k.val) (ix2 (n0 := 196) (n1 := 1) (i 0) 0))

/-- The values after the region at an index. -/
theorem tail_eq (c : Dev nD) : Pipeline.afterTail₀ cfgs (dats m) 0 (V0 m) [hostOps1] c main_v2 = resultOf m c := by
  rw [tail_value]
  funext i
  obtain ⟨r, rfl⟩ : ∃ r, i = ix1 (n0 := 196) r := ⟨i 0, (ix1_eta i).symm⟩
  have := last_at m c r 0
  generalize ((outsAt0 m c 24 last_lt).1 : FVec Ideal S196x128 .f32) = O at this ⊢
  pointwise
  exact this

variable (ρ : Dev nD → PrngReg)

/-- Every run of the kernel ends with the result at the mean of the nine smallest distances, the arguments as launched. -/
theorem run : θ_run defs (onTc (τ := τ) (main (F := Ideal))) ⟨m, fun _ => 0, ρ⟩ fun r => ∀ c : Dev nD,
    r.2.mem ((c : Thread nD τ).loc main_v2) = resultOf m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun r h c => ⟨((h.1 c).2 main_v2 (by decide)).trans (tail_eq m c), h.2 c⟩)
    (θ_run_and (run_main m ρ) (unchanged m ρ))

end Cert.KernelIdeal.Knn

end
-- ==== Proof.RefValue.lean ====
/-
  What the plain program's result holds: for every feature row the mean of the nine values at places 0 to 8 of the row's
  distances over the whole bank.
-/
module

public import proofs.«01_k».proof.Proof.Gen.ReferenceIdeal.Run
public import proofs.«01_k».proof.Proof.Select
public import Idealize.ShloMosaic.Lib.SortFacts
public import Idealize.ShloMosaic.Lib.Pointwise

@[expose] public section

set_option maxRecDepth 16384

noncomputable section

namespace Cert.ReferenceIdeal.Knn

open Idealize.ShloMosaic Idealize.ShloMosaic.TcCoe Idealize.ShloMosaic.Tactic
open Cert.ReferenceIdeal Cert.ReferenceIdeal.Gen Cert.Select

/-- Moving along the second axis of an array of two axes replaces the second coordinate. -/
theorem along_ix2 {a b : ℕ} (r : Fin a) (p q : Fin b) :
    (ix2 r p : (⟨2, ![a, b]⟩ : Shape).Idx).along (s := ⟨2, ![a, b]⟩) (1 : Fin 2) q = ix2 r q := by
  funext i
  unfold Shape.Idx.along
  match i with
  | 0 => exact Function.update_of_ne (show (0 : Fin 2) ≠ 1 by decide) _ _
  | 1 => exact Function.update_self _ _ _

/-- The total-order comparison "greater" of two extended reals, as a truth value. -/
theorem gt_eq (x y : EReal) : ((FloatOps.cmpfTotal (F := Ideal) (φ := .f32) .gt x y : BitVec 1) == 1#1) = decide (y < x) := by
  change (BitVec.ofBool (decide (y < x)) == 1#1) = decide (y < x)
  by_cases h : y < x <;> simp [h]

/-- The nine greatest along a row: a permutation of the row's places puts the row in descending order, and the results are
    the first nine values in that order. -/
theorem topK_at (x : FVec Ideal S196x100000 .f32) (h : S196x100000.Slices (fun _ => 0) S196x9) (r : Fin 196) :
    ∃ σ : Fin 100000 → Fin 100000, Function.Injective σ ∧ (∀ i j, i < j → x (ix2 r (σ j)) ≤ x (ix2 r (σ i)))
      ∧ ∀ k : Fin 9, (Host.topK S196x9 1 (FloatOps.cmpfTotal (F := Ideal) (φ := .f32) .gt) x h).1 (ix2 r k)
          = x (ix2 r (σ ⟨k.val, by omega⟩)) := by
  let B : Fin 100000 → Fin 100000 → Bool := fun p q => decide (x (ix2 r q) < x (ix2 r p))
  refine ⟨sortedFrom B, sortedFrom_injective B, ?_, ?_⟩
  · intro i j hij
    have := sortedFrom_noInversion B B
      (by intro a b; simp only [B, decide_eq_true_eq, decide_eq_false_iff_not]; exact fun h => not_lt.2 h.le)
      (fun a b h => h)
      (by intro a b c; simp only [B, decide_eq_false_iff_not, not_lt]; exact fun h1 h2 => h1.trans h2) i j hij
    simpa only [B, decide_eq_false_iff_not, not_lt] using this
  · intro k
    have hs : ∀ q : Fin 100000, (Host.sort2 S196x100000 1
          (fun l r => FloatOps.cmpfTotal (F := Ideal) (φ := .f32) .gt l.1 r.1) x
          (fun i => if hd : 1 < S196x100000.rank then iotaInDim S196x100000 32 ⟨1, hd⟩ i else 0#32)).1 (ix2 r q)
        = x (ix2 r (sortedFrom B q)) := by
      intro q
      unfold Host.sort2
      rw [dif_pos (show 1 < S196x100000.rank by decide)]
      dsimp only
      have hB : (fun p p' : Fin 100000 => (FloatOps.cmpfTotal (F := Ideal) (φ := .f32) .gt
          (x ((ix2 r q : S196x100000.Idx).along (1 : Fin 2) p)) (x ((ix2 r q : S196x100000.Idx).along (1 : Fin 2) p')) : BitVec 1) == 1#1) = B := by
        funext p p'
        rw [along_ix2, along_ix2, gt_eq]
      exact (congrArg (fun C => x ((ix2 r q : S196x100000.Idx).along (1 : Fin 2) (sortedFrom C q))) hB).trans
        (congrArg x (along_ix2 r q _))
    rw [← hs]
    unfold Host.topK
    dsimp only
    generalize (Host.sort2 S196x100000 1 _ x _).1 = y
    pointwise

/-- The distance of feature row `r` to bank row `q` as the plain program computes it. -/
def refDist (f : FVec Ideal S196x1536 .f32) (b : FVec Ideal S100000x1536 .f32) (r : Fin 196) (q : Fin 100000) : EReal :=
  Ideal.sqrt (max ((∑ x : Fin 1536, f (ix2 r x) * f (ix2 r x)) + (∑ x : Fin 1536, b (ix2 q x) * b (ix2 q x))
    - Ideal.ofBits .f32 1073741824#32 * ∑ x : Fin 1536, f (ix2 r x) * b (ix2 q x)) (Ideal.ofBits .f32 730643660#32))

/-- The plain program's array of negated distances. -/
def negDist (f : FVec Ideal S196x1536 .f32) (b : FVec Ideal S100000x1536 .f32) : FVec Ideal S196x100000 .f32 :=
  Host.negf (Host.sqrt (maximumf (subf (addf (broadcastInDim S196x100000 ![0, 1] bcast_S196x1_S196x100000_0_1 (broadcastInDim S196x1 ![0] bcast_S196_S196x1_0 (Host.reduceAdd (mulf f f) (constant S_ .f32 0x00000000#32) reducesTo_S196x1536_S196_d1 h_S_))) (broadcastInDim S196x100000 ![0, 1] bcast_S1x100000_S196x100000_0_1 (broadcastInDim S1x100000 ![1] bcast_S100000_S1x100000_1 (Host.reduceAdd (mulf b b) (constant S_ .f32 0x00000000#32) reducesTo_S100000x1536_S100000_d1 h_S_)))) (mulf (broadcastInDim S196x100000 ![] bcast_S_S196x100000 (constant S_ .f32 0x40000000#32)) (Host.dotGeneral dot_S196x1536_S1536x100000_S196x100000_1_0_0_1_n_n none f (transpose S1536x100000 [1, 0] b transposes_S100000x1536_S1536x100000_1_0)))) (broadcastInDim S196x100000 ![] bcast_S_S196x100000 (constant S_ .f32 0x2B8CBCCC#32))))

/-- Its entry at row `r` and column `q` is minus the distance. -/
theorem negDist_at (f : FVec Ideal S196x1536 .f32) (b : FVec Ideal S100000x1536 .f32) (r : Fin 196) (q : Fin 100000) :
    negDist f b (ix2 r q) = - refDist f b r q := by
  unfold negDist refDist
  pointwise

/-- The plain program's result from its two arguments. -/
def refResult (f : FVec Ideal S196x1536 .f32) (b : FVec Ideal S100000x1536 .f32) : FVec Ideal S196 .f32 :=
  Host.divf (Host.reduceAdd (Host.negf ((Host.topK S196x9 1 (FloatOps.cmpfTotal (F := Ideal) (φ := .f32) .gt) (negDist f b) sliceFits_S196x100000_S196x9).1)) (constant S_ .f32 0x00000000#32) reducesTo_S196x9_S196_d1 h_S_) (broadcastInDim S196 ![] bcast_S_S196 (constant S_ .f32 0x41100000#32))

/-- The result at row `r` is the mean of nine values, the k-th of which stands at place k of the row's distances in
    ascending order. -/
theorem refResult_at (f : FVec Ideal S196x1536 .f32) (b : FVec Ideal S100000x1536 .f32) (r : Fin 196) :
    ∃ w : Fin 9 → EReal, (∀ k, IsKth (refDist f b r) k.val (w k))
      ∧ refResult f b (ix1 r) = Ideal.div (∑ k : Fin 9, w k) (Ideal.ofBits .f32 1091567616#32) := by
  obtain ⟨σ, hσ, hord, hval⟩ := topK_at (negDist f b) sliceFits_S196x100000_S196x9 r
  refine ⟨fun k => refDist f b r (σ ⟨k.val, by omega⟩), fun k => ?_, ?_⟩
  · refine isKth_of_sorted (refDist f b r) σ hσ (fun i j hij => ?_) ⟨k.val, by omega⟩
    have := hord i j hij
    rwa [negDist_at, negDist_at, EReal.neg_le_neg_iff] at this
  · have hk : ∀ k : Fin 9, - (Host.topK S196x9 1 (FloatOps.cmpfTotal (F := Ideal) (φ := .f32) .gt) (negDist f b) sliceFits_S196x100000_S196x9).1 (ix2 r k)
        = refDist f b r (σ ⟨k.val, by omega⟩) := by
      intro k; rw [hval, negDist_at, neg_neg]
    rw [← Finset.sum_congr rfl fun k _ => hk k]
    unfold refResult
    generalize (Host.topK S196x9 1 (FloatOps.cmpfTotal (F := Ideal) (φ := .f32) .gt) (negDist f b) sliceFits_S196x100000_S196x9).1 = y
    pointwise

end Cert.ReferenceIdeal.Knn

end
-- ==== Proof.Finite.lean ====
/-
  The precondition: every entry of both arguments is a real number.
-/
module

public import proofs.«01_k».proof.Defs
public import Idealize.ShloMosaic.Lib.Pointwise

@[expose] public section

set_option maxRecDepth 16384

noncomputable section

namespace Cert.Pre_finite

open Idealize.ShloMosaic Idealize.ShloMosaic.Tactic

/-- The shape facts of the precondition. -/
theorem facts : Facts where
  bcast_S_S196x1536 := by decide
  bcast_S_S100000x1536 := by decide

/-- The word of plus infinity. -/
theorem word_top : Ideal.ofBits .f32 2139095040#32 = ⊤ := by simp [Ideal.ofBits, Ideal.ieee]

/-- An extended real whose absolute value compares below infinity is neither infinity. -/
theorem ne_of_abs_lt {x : EReal} (h : max x (-x) < ⊤) : x ≠ ⊤ ∧ x ≠ ⊥ := by
  constructor
  · rintro rfl; simp at h
  · rintro rfl; simp at h

/-- Where the precondition holds no entry of the features is infinite. -/
theorem features_finite [Facts] (f : FVec Ideal S196x1536 .f32) (b : FVec Ideal S100000x1536 .f32)
    (h : (fn (F := Ideal) f b).1 = fun _ => 1#1) (r : Fin 196) (x : Fin 1536) : f (ix2 r x) ≠ ⊤ ∧ f (ix2 r x) ≠ ⊥ := by
  have e := congrFun h (ix2 r x)
  have : (fn (F := Ideal) f b).1 (ix2 r x) = BitVec.ofBool (decide (max (f (ix2 r x)) (-(f (ix2 r x))) < Ideal.ofBits .f32 2139095040#32)) := by
    unfold fn
    pointwise
    rfl
  rw [this, word_top] at e
  apply ne_of_abs_lt
  by_contra hn
  simp [hn] at e

/-- Where the precondition holds no entry of the bank is infinite. -/
theorem bank_finite [Facts] (f : FVec Ideal S196x1536 .f32) (b : FVec Ideal S100000x1536 .f32)
    (h : (fn (F := Ideal) f b).2 = fun _ => 1#1) (q : Fin 100000) (x : Fin 1536) : b (ix2 q x) ≠ ⊤ ∧ b (ix2 q x) ≠ ⊥ := by
  have e := congrFun h (ix2 q x)
  have : (fn (F := Ideal) f b).2 (ix2 q x) = BitVec.ofBool (decide (max (b (ix2 q x)) (-(b (ix2 q x))) < Ideal.ofBits .f32 2139095040#32)) := by
    unfold fn
    pointwise
    rfl
  rw [this, word_top] at e
  apply ne_of_abs_lt
  by_contra hn
  simp [hn] at e

end Cert.Pre_finite

end
-- ==== Proof.Equation.lean ====
/-
  The equation: for finite arguments the plain program's distance is the root of the clamped score plus the feature's squared
  norm, which is what the kernel takes the mean of, so both results agree.
-/
module

public import proofs.«01_k».proof.Proof.KernelValue
public import proofs.«01_k».proof.Proof.RefValue
public import proofs.«01_k».proof.Proof.Finite

@[expose] public section

set_option maxRecDepth 16384

noncomputable section

namespace Cert.Equation

open Idealize.ShloMosaic Idealize.ShloMosaic.TcCoe Idealize.ShloMosaic.Tactic
open Cert.Select Cert.KernelIdeal.Knn Cert.ReferenceIdeal.Knn

/-- The word of two. -/
theorem word_two : Ideal.ofBits .f32 1073741824#32 = ((2 : ℝ) : EReal) := by
  simp [Ideal.ofBits, Ideal.ieee, -EReal.coe_mul]; norm_num

/-- The word of minus two. -/
theorem word_neg_two : Ideal.ofBits .f32 3221225472#32 = ((-2 : ℝ) : EReal) := by
  simp [Ideal.ofBits, Ideal.ieee, -EReal.coe_mul, -EReal.coe_neg]; norm_num

/-- The square root of extended reals, with minus infinity below zero, is monotone. -/
theorem sqrt_mono : Monotone Ideal.sqrt := by
  have hr : ∀ a : ℝ, Ideal.sqrt (a : EReal) = if a < 0 then ⊥ else ((Real.sqrt a : ℝ) : EReal) := fun _ => rfl
  have ht : Ideal.sqrt ⊤ = ⊤ := rfl
  have hbot : Ideal.sqrt ⊥ = ⊥ := rfl
  intro x y h
  induction x using EReal.rec with
  | bot => rw [hbot]; exact bot_le
  | top => rw [top_le_iff.1 h]
  | coe a =>
    induction y using EReal.rec with
    | bot => exact absurd h (not_le.2 (EReal.bot_lt_coe a))
    | top => rw [ht]; exact le_top
    | coe c =>
      have hac : a ≤ c := EReal.coe_le_coe_iff.1 h
      rw [hr, hr]
      by_cases ha : a < 0
      · rw [if_pos ha]; exact bot_le
      · rw [if_neg ha, if_neg (fun hc => ha (hac.trans_lt hc))]
        exact EReal.coe_le_coe_iff.2 (Real.sqrt_le_sqrt hac)

/-- The distance grows with the score. -/
theorem distOf_mono (a : EReal) : Monotone (distOf a) := fun _ _ h =>
  sqrt_mono (max_le_max (add_le_add h le_rfl) le_rfl)

/-- A finite sum of real numbers in the extended reals. -/
theorem coe_sum {n : ℕ} (g : Fin n → ℝ) : ∑ x, (g x : EReal) = ((∑ x, g x : ℝ) : EReal) := by
  induction n with
  | zero => simp
  | succ n ih => rw [Fin.sum_univ_succ, Fin.sum_univ_succ, ih, EReal.coe_add]

/-- For real entries the two ways to the squared distance agree: expanding the square with the factor minus two inside the
    contraction, and with the factor two taken off afterwards. -/
theorem refDist_eq (f : FVec Ideal Cert.KernelIdeal.S196x1536 .f32) (b : FVec Ideal Cert.KernelIdeal.S100000x1536 .f32)
    (r : Fin 196) (q : Fin 100000) (hf : ∀ x, f (ix2 r x) ≠ ⊤ ∧ f (ix2 r x) ≠ ⊥) (hb : ∀ x, b (ix2 q x) ≠ ⊤ ∧ b (ix2 q x) ≠ ⊥) :
    refDist f b r q = distOf (sqnorm f r) (score f b r q) := by
  obtain ⟨u, hu⟩ : ∃ u : Fin 1536 → ℝ, ∀ x, f (ix2 r x) = (u x : EReal) :=
    ⟨fun x => (f (ix2 r x)).toReal, fun x => (EReal.coe_toReal (hf x).1 (hf x).2).symm⟩
  obtain ⟨w, hw⟩ : ∃ w : Fin 1536 → ℝ, ∀ x, b (ix2 q x) = (w x : EReal) :=
    ⟨fun x => (b (ix2 q x)).toReal, fun x => (EReal.coe_toReal (hb x).1 (hb x).2).symm⟩
  unfold refDist distOf sqnorm score
  simp only [hu, hw, word_two, word_neg_two, ← EReal.coe_mul, coe_sum, ← EReal.coe_add, ← EReal.coe_sub]
  have e : ∑ x, u x * u x + ∑ x, w x * w x - 2 * ∑ x, u x * w x
      = ∑ x, -2 * u x * w x + ∑ x, w x * w x + ∑ x, u x * u x := by
    have : ∑ x, -2 * u x * w x = -2 * ∑ x, u x * w x := by
      rw [Finset.mul_sum]; exact Finset.sum_congr rfl fun x _ => by ring
    rw [this]; ring
  rw [e]

/-- For finite arguments both programs' results agree. -/
theorem result_eq (m : (ℓ : Loc Cert.KernelIdeal.nD Cert.KernelIdeal.τ Cert.KernelIdeal.sig) → Buf (Elt Ideal) ℓ)
    (c : Dev Cert.KernelIdeal.nD)
    (hf : ∀ (r : Fin 196) (x : Fin 1536), featOf m c (ix2 r x) ≠ ⊤ ∧ featOf m c (ix2 r x) ≠ ⊥)
    (hb : ∀ (q : Fin 100000) (x : Fin 1536), bankOf m c (ix2 q x) ≠ ⊤ ∧ bankOf m c (ix2 q x) ≠ ⊥) :
    refResult (featOf m c) (bankOf m c) = resultOf m c := by
  funext i
  obtain ⟨r, rfl⟩ : ∃ r : Fin 196, i = ix1 r := ⟨i 0, by funext j; match j with | 0 => rfl⟩
  obtain ⟨w, hw, e⟩ := refResult_at (featOf m c) (bankOf m c) r
  rw [e]
  change _ = meanOf (sqnorm (featOf m c) r) _
  unfold meanOf
  refine congrArg (fun s => Ideal.div s _) (Finset.sum_congr rfl fun k _ => ?_)
  have hk := (round_isKth m c r k).mono (distOf_mono (sqnorm (featOf m c) r))
  have hd : refDist (featOf m c) (bankOf m c) r
      = fun q => distOf (sqnorm (featOf m c) r) (score (featOf m c) (bankOf m c) r q) :=
    funext fun q => refDist_eq _ _ r q (hf r) (hb q)
  have h := hw k
  rw [hd] at h
  exact h.unique hk

end Cert.Equation

end
-- ==== Proof.lean ====
/-
  The certificate: the frames of the three programs, the idealization, and the equality of the kernel's result with the plain
  program's over the extended reals, for finite arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The plain program terminates, leaves its arguments unchanged, and has no semaphore whose counter could differ from
    zero. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- From finite arguments the kernel and the plain program end with the same result. -/
theorem results_equal : Cert.algebraic_KernelIdeal_ReferenceIdeal_pre_finite (hKernelIdeal := Cert.KernelIdeal.Gen.facts)
    (hReferenceIdeal := Cert.ReferenceIdeal.Gen.facts) (hPre_finite := Cert.Pre_finite.facts) := by
  letI := Cert.Pre_finite.facts
  intro m g m' g' hpre hargs
  refine ⟨fun c => Cert.KernelIdeal.Knn.resultOf m c, Cert.KernelIdeal.Knn.run m g, ?_⟩
  refine (θ_run (Cert.ReferenceIdeal.defs (F := Ideal)) _ _).mono (fun r h c => ⟨?_, (h c).2⟩)
    (Cert.ReferenceIdeal.Value.run (F := Ideal) m' g')
  have e := Cert.Equation.result_eq m c
    (Cert.Pre_finite.features_finite _ _ (hpre c).1) (Cert.Pre_finite.bank_finite _ _ (hpre c).2)
  refine (h c).1.trans (Eq.trans ?_ e)
  rw [(hargs c).1, (hargs c).2]
  rfl

/-- Every claim of the certificate. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results_equal⟩

end Cert.Proof

end
